-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8192x128 : Shape := ⟨3, ![64, 8192, 128]⟩
abbrev S64x128 : Shape := ⟨2, ![64, 128]⟩
abbrev S256x128 : Shape := ⟨2, ![256, 128]⟩
abbrev S2x128 : Shape := ⟨2, ![2, 128]⟩
abbrev S_ : Shape := ⟨0, ![]⟩
abbrev S1x256x128 : Shape := ⟨3, ![1, 256, 128]⟩
abbrev S16 : Shape := ⟨1, ![16]⟩
abbrev S1x16 : Shape := ⟨2, ![1, 16]⟩
abbrev S64x1x128 : Shape := ⟨3, ![64, 1, 128]⟩
abbrev S1x3584x128 : Shape := ⟨3, ![1, 3584, 128]⟩
abbrev S1x1x128 : Shape := ⟨3, ![1, 1, 128]⟩
abbrev S8x128 : Shape := ⟨2, ![8, 128]⟩
abbrev S1x64x128 : Shape := ⟨3, ![1, 64, 128]⟩
abbrev S8x8x128 : Shape := ⟨3, ![8, 8, 128]⟩
abbrev S1x8x128 : Shape := ⟨3, ![1, 8, 128]⟩
abbrev S128 : Shape := ⟨1, ![128]⟩
abbrev S1x128 : Shape := ⟨2, ![1, 128]⟩

abbrev nBuf : Table → Nat
  | .hbm => 6
  | .local .tc .vmem => 11
  | .local .scVector .vmem => 4
  | _ => 0

abbrev bufTy : (tb : Table) → Fin (nBuf tb) → BufTy
  | .hbm, ⟨0, _⟩ => ⟨S64x8192x128, .f32⟩
  | .hbm, ⟨1, _⟩ => ⟨S64x128, .i32⟩
  | .hbm, ⟨2, _⟩ => ⟨S64x128, .f32⟩
  | .hbm, ⟨3, _⟩ => ⟨S64x1x128, .f32⟩
  | .hbm, ⟨4, _⟩ => ⟨S64x1x128, .i32⟩
  | .hbm, ⟨5, _⟩ => ⟨S64x128, .i32⟩
  | .local .tc .vmem, ⟨0, _⟩ => ⟨S1x3584x128, .f32⟩
  | .local .tc .vmem, ⟨1, _⟩ => ⟨S1x3584x128, .f32⟩
  | .local .tc .vmem, ⟨2, _⟩ => ⟨S1x1x128, .f32⟩
  | .local .tc .vmem, ⟨3, _⟩ => ⟨S1x1x128, .f32⟩
  | .local .tc .vmem, ⟨4, _⟩ => ⟨S1x1x128, .i32⟩
  | .local .tc .vmem, ⟨5, _⟩ => ⟨S1x1x128, .i32⟩
  | .local .tc .vmem, ⟨6, _⟩ => ⟨S64x1x128, .f32⟩
  | .local .tc .vmem, ⟨7, _⟩ => ⟨S64x1x128, .i32⟩
  | .local .tc .vmem, ⟨8, _⟩ => ⟨S64x128, .f32⟩
  | .local .tc .vmem, ⟨9, _⟩ => ⟨S64x128, .i32⟩
  | .local .tc .vmem, ⟨10, _⟩ => ⟨S64x128, .i32⟩
  | .local .scVector .vmem, ⟨0, _⟩ => ⟨S256x128, .f32⟩
  | .local .scVector .vmem, ⟨1, _⟩ => ⟨S256x128, .f32⟩
  | .local .scVector .vmem, ⟨2, _⟩ => ⟨S2x128, .i32⟩
  | .local .scVector .vmem, ⟨3, _⟩ => ⟨S2x128, .f32⟩
  | _, _ => ⟨S64x8192x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c3584_i32 : BitVec 32 := 3584#32
  let c0_i32_1 : BitVec 32 := 0#32
  ![v3.toNat, 3584, 0]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c3840_i32 : BitVec 32 := 3840#32
  let c0_i32_4 : BitVec 32 := 0#32
  ![v3.toNat, 3840, 0]
@[reducible] def k0_t1_loop : Scf.Loop 32 :=
  let c0_i32_22 : BitVec 32 := 0#32
  let c9_i32 : BitVec 32 := 9#32
  let v28 : BitVec 32 := Scalar.addi c0_i32_22 c9_i32
  let c1_i32 : BitVec 32 := 1#32
  ⟨c0_i32_22, v28, c1_i32⟩
def k0_off3 (i : grid0.Coords) (k0_t1 : Fin k0_t1_loop.trips) (c0_i32_113 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c3584_i32_114 : BitVec 32 := 3584#32
  let c0_i32_22 : BitVec 32 := 0#32
  let c1_i32 : BitVec 32 := 1#32
  let arg11 : BitVec 32 := Scf.iv c0_i32_22 c1_i32 k0_t1
  let c2_i32_112 : BitVec 32 := 2#32
  let v188 : BitVec 32 := Scalar.muli arg11 c2_i32_112
  let v189 : BitVec 32 := Scalar.addi v188 c0_i32_113
  let c256_i32 : BitVec 32 := 256#32
  let v190 : BitVec 32 := Scalar.muli v189 c256_i32
  let v191 : BitVec 32 := Scalar.addi c3584_i32_114 v190
  let c0_i32_115 : BitVec 32 := 0#32
  ![v3.toNat, v191.toNat, 0]
@[reducible] def k0_t2_loop : Scf.Loop 32 :=
  let c0_i32_117 : BitVec 32 := 0#32
  let c128_i32 : BitVec 32 := 128#32
  let v196 : BitVec 32 := Scalar.addi c0_i32_117 c128_i32
  let c1_i32_118 : BitVec 32 := 1#32
  ⟨c0_i32_117, v196, c1_i32_118⟩
def k0_off4 (k0_t2 : Fin k0_t2_loop.trips) : Fin 2 → Nat :=
  let c2_i32_139 : BitVec 32 := 2#32
  let c0_i32_117 : BitVec 32 := 0#32
  let c1_i32_118 : BitVec 32 := 1#32
  let arg28 : BitVec 32 := Scf.iv c0_i32_117 c1_i32_118 k0_t2
  let v223 : BitVec 32 := Scalar.muli c2_i32_139 arg28
  let v224 : Index := Scalar.indexCast v223
  let c0_140 : Index := 0#32
  ![v224.toNat, 0]
def k0_off5 (k0_t2 : Fin k0_t2_loop.trips) : Fin 2 → Nat :=
  let c2_i32_141 : BitVec 32 := 2#32
  let c0_i32_117 : BitVec 32 := 0#32
  let c1_i32_118 : BitVec 32 := 1#32
  let arg28 : BitVec 32 := Scf.iv c0_i32_117 c1_i32_118 k0_t2
  let v227 : BitVec 32 := Scalar.muli c2_i32_141 arg28
  let c1_i32_142 : BitVec 32 := 1#32
  let v228 : BitVec 32 := Scalar.addi v227 c1_i32_142
  let v229 : Index := Scalar.indexCast v228
  let c0_143 : Index := 0#32
  ![v229.toNat, 0]
def k0_off6 (k0_t2 : Fin k0_t2_loop.trips) : Fin 2 → Nat :=
  let c2_i32_144 : BitVec 32 := 2#32
  let c0_i32_117 : BitVec 32 := 0#32
  let c1_i32_118 : BitVec 32 := 1#32
  let arg28 : BitVec 32 := Scf.iv c0_i32_117 c1_i32_118 k0_t2
  let v238 : BitVec 32 := Scalar.muli c2_i32_144 arg28
  let v239 : Index := Scalar.indexCast v238
  let c16_145 : Index := 16#32
  ![v239.toNat, 16]
def k0_off7 (k0_t2 : Fin k0_t2_loop.trips) : Fin 2 → Nat :=
  let c2_i32_146 : BitVec 32 := 2#32
  let c0_i32_117 : BitVec 32 := 0#32
  let c1_i32_118 : BitVec 32 := 1#32
  let arg28 : BitVec 32 := Scf.iv c0_i32_117 c1_i32_118 k0_t2
  let v242 : BitVec 32 := Scalar.muli c2_i32_146 arg28
  let c1_i32_147 : BitVec 32 := 1#32
  let v243 : BitVec 32 := Scalar.addi v242 c1_i32_147
  let v244 : Index := Scalar.indexCast v243
  let c16_148 : Index := 16#32
  ![v244.toNat, 16]
def k0_off8 (k0_t2 : Fin k0_t2_loop.trips) : Fin 2 → Nat :=
  let c2_i32_149 : BitVec 32 := 2#32
  let c0_i32_117 : BitVec 32 := 0#32
  let c1_i32_118 : BitVec 32 := 1#32
  let arg28 : BitVec 32 := Scf.iv c0_i32_117 c1_i32_118 k0_t2
  let v253 : BitVec 32 := Scalar.muli c2_i32_149 arg28
  let v254 : Index := Scalar.indexCast v253
  let c32_150 : Index := 32#32
  ![v254.toNat, 32]
def k0_off9 (k0_t2 : Fin k0_t2_loop.trips) : Fin 2 → Nat :=
  let c2_i32_151 : BitVec 32 := 2#32
  let c0_i32_117 : BitVec 32 := 0#32
  let c1_i32_118 : BitVec 32 := 1#32
  let arg28 : BitVec 32 := Scf.iv c0_i32_117 c1_i32_118 k0_t2
  let v257 : BitVec 32 := Scalar.muli c2_i32_151 arg28
  let c1_i32_152 : BitVec 32 := 1#32
  let v258 : BitVec 32 := Scalar.addi v257 c1_i32_152
  let v259 : Index := Scalar.indexCast v258
  let c32_153 : Index := 32#32
  ![v259.toNat, 32]
def k0_off10 (k0_t2 : Fin k0_t2_loop.trips) : Fin 2 → Nat :=
  let c2_i32_154 : BitVec 32 := 2#32
  let c0_i32_117 : BitVec 32 := 0#32
  let c1_i32_118 : BitVec 32 := 1#32
  let arg28 : BitVec 32 := Scf.iv c0_i32_117 c1_i32_118 k0_t2
  let v268 : BitVec 32 := Scalar.muli c2_i32_154 arg28
  let v269 : Index := Scalar.indexCast v268
  let c48_155 : Index := 48#32
  ![v269.toNat, 48]
def k0_off11 (k0_t2 : Fin k0_t2_loop.trips) : Fin 2 → Nat :=
  let c2_i32_156 : BitVec 32 := 2#32
  let c0_i32_117 : BitVec 32 := 0#32
  let c1_i32_118 : BitVec 32 := 1#32
  let arg28 : BitVec 32 := Scf.iv c0_i32_117 c1_i32_118 k0_t2
  let v272 : BitVec 32 := Scalar.muli c2_i32_156 arg28
  let c1_i32_157 : BitVec 32 := 1#32
  let v273 : BitVec 32 := Scalar.addi v272 c1_i32_157
  let v274 : Index := Scalar.indexCast v273
  let c48_158 : Index := 48#32
  ![v274.toNat, 48]
def k0_off12 (k0_t2 : Fin k0_t2_loop.trips) : Fin 2 → Nat :=
  let c2_i32_159 : BitVec 32 := 2#32
  let c0_i32_117 : BitVec 32 := 0#32
  let c1_i32_118 : BitVec 32 := 1#32
  let arg28 : BitVec 32 := Scf.iv c0_i32_117 c1_i32_118 k0_t2
  let v283 : BitVec 32 := Scalar.muli c2_i32_159 arg28
  let v284 : Index := Scalar.indexCast v283
  let c64_160 : Index := 64#32
  ![v284.toNat, 64]
def k0_off13 (k0_t2 : Fin k0_t2_loop.trips) : Fin 2 → Nat :=
  let c2_i32_161 : BitVec 32 := 2#32
  let c0_i32_117 : BitVec 32 := 0#32
  let c1_i32_118 : BitVec 32 := 1#32
  let arg28 : BitVec 32 := Scf.iv c0_i32_117 c1_i32_118 k0_t2
  let v287 : BitVec 32 := Scalar.muli c2_i32_161 arg28
  let c1_i32_162 : BitVec 32 := 1#32
  let v288 : BitVec 32 := Scalar.addi v287 c1_i32_162
  let v289 : Index := Scalar.indexCast v288
  let c64_163 : Index := 64#32
  ![v289.toNat, 64]
def k0_off14 (k0_t2 : Fin k0_t2_loop.trips) : Fin 2 → Nat :=
  let c2_i32_164 : BitVec 32 := 2#32
  let c0_i32_117 : BitVec 32 := 0#32
  let c1_i32_118 : BitVec 32 := 1#32
  let arg28 : BitVec 32 := Scf.iv c0_i32_117 c1_i32_118 k0_t2
  let v298 : BitVec 32 := Scalar.muli c2_i32_164 arg28
  let v299 : Index := Scalar.indexCast v298
  let c80_165 : Index := 80#32
  ![v299.toNat, 80]
def k0_off15 (k0_t2 : Fin k0_t2_loop.trips) : Fin 2 → Nat :=
  let c2_i32_166 : BitVec 32 := 2#32
  let c0_i32_117 : BitVec 32 := 0#32
  let c1_i32_118 : BitVec 32 := 1#32
  let arg28 : BitVec 32 := Scf.iv c0_i32_117 c1_i32_118 k0_t2
  let v302 : BitVec 32 := Scalar.muli c2_i32_166 arg28
  let c1_i32_167 : BitVec 32 := 1#32
  let v303 : BitVec 32 := Scalar.addi v302 c1_i32_167
  let v304 : Index := Scalar.indexCast v303
  let c80_168 : Index := 80#32
  ![v304.toNat, 80]
def k0_off16 (k0_t2 : Fin k0_t2_loop.trips) : Fin 2 → Nat :=
  let c2_i32_169 : BitVec 32 := 2#32
  let c0_i32_117 : BitVec 32 := 0#32
  let c1_i32_118 : BitVec 32 := 1#32
  let arg28 : BitVec 32 := Scf.iv c0_i32_117 c1_i32_118 k0_t2
  let v313 : BitVec 32 := Scalar.muli c2_i32_169 arg28
  let v314 : Index := Scalar.indexCast v313
  let c96_170 : Index := 96#32
  ![v314.toNat, 96]
def k0_off17 (k0_t2 : Fin k0_t2_loop.trips) : Fin 2 → Nat :=
  let c2_i32_171 : BitVec 32 := 2#32
  let c0_i32_117 : BitVec 32 := 0#32
  let c1_i32_118 : BitVec 32 := 1#32
  let arg28 : BitVec 32 := Scf.iv c0_i32_117 c1_i32_118 k0_t2
  let v317 : BitVec 32 := Scalar.muli c2_i32_171 arg28
  let c1_i32_172 : BitVec 32 := 1#32
  let v318 : BitVec 32 := Scalar.addi v317 c1_i32_172
  let v319 : Index := Scalar.indexCast v318
  let c96_173 : Index := 96#32
  ![v319.toNat, 96]
def k0_off18 (k0_t2 : Fin k0_t2_loop.trips) : Fin 2 → Nat :=
  let c2_i32_174 : BitVec 32 := 2#32
  let c0_i32_117 : BitVec 32 := 0#32
  let c1_i32_118 : BitVec 32 := 1#32
  let arg28 : BitVec 32 := Scf.iv c0_i32_117 c1_i32_118 k0_t2
  let v328 : BitVec 32 := Scalar.muli c2_i32_174 arg28
  let v329 : Index := Scalar.indexCast v328
  let c112_175 : Index := 112#32
  ![v329.toNat, 112]
def k0_off19 (k0_t2 : Fin k0_t2_loop.trips) : Fin 2 → Nat :=
  let c2_i32_176 : BitVec 32 := 2#32
  let c0_i32_117 : BitVec 32 := 0#32
  let c1_i32_118 : BitVec 32 := 1#32
  let arg28 : BitVec 32 := Scf.iv c0_i32_117 c1_i32_118 k0_t2
  let v332 : BitVec 32 := Scalar.muli c2_i32_176 arg28
  let c1_i32_177 : BitVec 32 := 1#32
  let v333 : BitVec 32 := Scalar.addi v332 c1_i32_177
  let v334 : Index := Scalar.indexCast v333
  let c112_178 : Index := 112#32
  ![v334.toNat, 112]
def k0_cond1 (k0_t1 : Fin k0_t1_loop.trips) : BitVec 1 :=
  let c0_i32_22 : BitVec 32 := 0#32
  let c1_i32 : BitVec 32 := 1#32
  let arg11 : BitVec 32 := Scf.iv c0_i32_22 c1_i32 k0_t1
  let c2_i32_112 : BitVec 32 := 2#32
  let v188 : BitVec 32 := Scalar.muli arg11 c2_i32_112
  let c0_i32_113 : BitVec 32 := 0#32
  let v189 : BitVec 32 := Scalar.addi v188 c0_i32_113
  let c2_i32_120 : BitVec 32 := 2#32
  let v198 : BitVec 32 := Scalar.addi v189 c2_i32_120
  let c18_i32 : BitVec 32 := 18#32
  let v199 : BitVec 1 := Scalar.cmpi .slt v198 c18_i32
  let v200 : BitVec 32 := Scalar.extui v199
  let c0_i32_121 : BitVec 32 := 0#32
  let v201 : BitVec 1 := Scalar.cmpi .ne v200 c0_i32_121
  v201

def k0_off20 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c3584_i32_137 : BitVec 32 := 3584#32
  let c0_i32_22 : BitVec 32 := 0#32
  let c1_i32 : BitVec 32 := 1#32
  let arg11 : BitVec 32 := Scf.iv c0_i32_22 c1_i32 k0_t1
  let c2_i32_112 : BitVec 32 := 2#32
  let v188 : BitVec 32 := Scalar.muli arg11 c2_i32_112
  let c0_i32_113 : BitVec 32 := 0#32
  let v189 : BitVec 32 := Scalar.addi v188 c0_i32_113
  let c2_i32_135 : BitVec 32 := 2#32
  let v216 : BitVec 32 := Scalar.addi v189 c2_i32_135
  let c256_i32_136 : BitVec 32 := 256#32
  let v217 : BitVec 32 := Scalar.muli v216 c256_i32_136
  let v218 : BitVec 32 := Scalar.addi c3584_i32_137 v217
  let c0_i32_138 : BitVec 32 := 0#32
  ![v3.toNat, v218.toNat, 0]
@[reducible] def k0_t3_loop : Scf.Loop 32 :=
  let c0_i32_128 : BitVec 32 := 0#32
  let c128_i32_129 : BitVec 32 := 128#32
  let v210 : BitVec 32 := Scalar.addi c0_i32_128 c128_i32_129
  let c1_i32_130 : BitVec 32 := 1#32
  ⟨c0_i32_128, v210, c1_i32_130⟩
def k0_off21 (k0_t3 : Fin k0_t3_loop.trips) : Fin 2 → Nat :=
  let c2_i32_139 : BitVec 32 := 2#32
  let c0_i32_128 : BitVec 32 := 0#32
  let c1_i32_130 : BitVec 32 := 1#32
  let arg28 : BitVec 32 := Scf.iv c0_i32_128 c1_i32_130 k0_t3
  let v223 : BitVec 32 := Scalar.muli c2_i32_139 arg28
  let v224 : Index := Scalar.indexCast v223
  let c0_140 : Index := 0#32
  ![v224.toNat, 0]
def k0_off22 (k0_t3 : Fin k0_t3_loop.trips) : Fin 2 → Nat :=
  let c2_i32_141 : BitVec 32 := 2#32
  let c0_i32_128 : BitVec 32 := 0#32
  let c1_i32_130 : BitVec 32 := 1#32
  let arg28 : BitVec 32 := Scf.iv c0_i32_128 c1_i32_130 k0_t3
  let v227 : BitVec 32 := Scalar.muli c2_i32_141 arg28
  let c1_i32_142 : BitVec 32 := 1#32
  let v228 : BitVec 32 := Scalar.addi v227 c1_i32_142
  let v229 : Index := Scalar.indexCast v228
  let c0_143 : Index := 0#32
  ![v229.toNat, 0]
def k0_off23 (k0_t3 : Fin k0_t3_loop.trips) : Fin 2 → Nat :=
  let c2_i32_144 : BitVec 32 := 2#32
  let c0_i32_128 : BitVec 32 := 0#32
  let c1_i32_130 : BitVec 32 := 1#32
  let arg28 : BitVec 32 := Scf.iv c0_i32_128 c1_i32_130 k0_t3
  let v238 : BitVec 32 := Scalar.muli c2_i32_144 arg28
  let v239 : Index := Scalar.indexCast v238
  let c16_145 : Index := 16#32
  ![v239.toNat, 16]
def k0_off24 (k0_t3 : Fin k0_t3_loop.trips) : Fin 2 → Nat :=
  let c2_i32_146 : BitVec 32 := 2#32
  let c0_i32_128 : BitVec 32 := 0#32
  let c1_i32_130 : BitVec 32 := 1#32
  let arg28 : BitVec 32 := Scf.iv c0_i32_128 c1_i32_130 k0_t3
  let v242 : BitVec 32 := Scalar.muli c2_i32_146 arg28
  let c1_i32_147 : BitVec 32 := 1#32
  let v243 : BitVec 32 := Scalar.addi v242 c1_i32_147
  let v244 : Index := Scalar.indexCast v243
  let c16_148 : Index := 16#32
  ![v244.toNat, 16]
def k0_off25 (k0_t3 : Fin k0_t3_loop.trips) : Fin 2 → Nat :=
  let c2_i32_149 : BitVec 32 := 2#32
  let c0_i32_128 : BitVec 32 := 0#32
  let c1_i32_130 : BitVec 32 := 1#32
  let arg28 : BitVec 32 := Scf.iv c0_i32_128 c1_i32_130 k0_t3
  let v253 : BitVec 32 := Scalar.muli c2_i32_149 arg28
  let v254 : Index := Scalar.indexCast v253
  let c32_150 : Index := 32#32
  ![v254.toNat, 32]
def k0_off26 (k0_t3 : Fin k0_t3_loop.trips) : Fin 2 → Nat :=
  let c2_i32_151 : BitVec 32 := 2#32
  let c0_i32_128 : BitVec 32 := 0#32
  let c1_i32_130 : BitVec 32 := 1#32
  let arg28 : BitVec 32 := Scf.iv c0_i32_128 c1_i32_130 k0_t3
  let v257 : BitVec 32 := Scalar.muli c2_i32_151 arg28
  let c1_i32_152 : BitVec 32 := 1#32
  let v258 : BitVec 32 := Scalar.addi v257 c1_i32_152
  let v259 : Index := Scalar.indexCast v258
  let c32_153 : Index := 32#32
  ![v259.toNat, 32]
def k0_off27 (k0_t3 : Fin k0_t3_loop.trips) : Fin 2 → Nat :=
  let c2_i32_154 : BitVec 32 := 2#32
  let c0_i32_128 : BitVec 32 := 0#32
  let c1_i32_130 : BitVec 32 := 1#32
  let arg28 : BitVec 32 := Scf.iv c0_i32_128 c1_i32_130 k0_t3
  let v268 : BitVec 32 := Scalar.muli c2_i32_154 arg28
  let v269 : Index := Scalar.indexCast v268
  let c48_155 : Index := 48#32
  ![v269.toNat, 48]
def k0_off28 (k0_t3 : Fin k0_t3_loop.trips) : Fin 2 → Nat :=
  let c2_i32_156 : BitVec 32 := 2#32
  let c0_i32_128 : BitVec 32 := 0#32
  let c1_i32_130 : BitVec 32 := 1#32
  let arg28 : BitVec 32 := Scf.iv c0_i32_128 c1_i32_130 k0_t3
  let v272 : BitVec 32 := Scalar.muli c2_i32_156 arg28
  let c1_i32_157 : BitVec 32 := 1#32
  let v273 : BitVec 32 := Scalar.addi v272 c1_i32_157
  let v274 : Index := Scalar.indexCast v273
  let c48_158 : Index := 48#32
  ![v274.toNat, 48]
def k0_off29 (k0_t3 : Fin k0_t3_loop.trips) : Fin 2 → Nat :=
  let c2_i32_159 : BitVec 32 := 2#32
  let c0_i32_128 : BitVec 32 := 0#32
  let c1_i32_130 : BitVec 32 := 1#32
  let arg28 : BitVec 32 := Scf.iv c0_i32_128 c1_i32_130 k0_t3
  let v283 : BitVec 32 := Scalar.muli c2_i32_159 arg28
  let v284 : Index := Scalar.indexCast v283
  let c64_160 : Index := 64#32
  ![v284.toNat, 64]
def k0_off30 (k0_t3 : Fin k0_t3_loop.trips) : Fin 2 → Nat :=
  let c2_i32_161 : BitVec 32 := 2#32
  let c0_i32_128 : BitVec 32 := 0#32
  let c1_i32_130 : BitVec 32 := 1#32
  let arg28 : BitVec 32 := Scf.iv c0_i32_128 c1_i32_130 k0_t3
  let v287 : BitVec 32 := Scalar.muli c2_i32_161 arg28
  let c1_i32_162 : BitVec 32 := 1#32
  let v288 : BitVec 32 := Scalar.addi v287 c1_i32_162
  let v289 : Index := Scalar.indexCast v288
  let c64_163 : Index := 64#32
  ![v289.toNat, 64]
def k0_off31 (k0_t3 : Fin k0_t3_loop.trips) : Fin 2 → Nat :=
  let c2_i32_164 : BitVec 32 := 2#32
  let c0_i32_128 : BitVec 32 := 0#32
  let c1_i32_130 : BitVec 32 := 1#32
  let arg28 : BitVec 32 := Scf.iv c0_i32_128 c1_i32_130 k0_t3
  let v298 : BitVec 32 := Scalar.muli c2_i32_164 arg28
  let v299 : Index := Scalar.indexCast v298
  let c80_165 : Index := 80#32
  ![v299.toNat, 80]
def k0_off32 (k0_t3 : Fin k0_t3_loop.trips) : Fin 2 → Nat :=
  let c2_i32_166 : BitVec 32 := 2#32
  let c0_i32_128 : BitVec 32 := 0#32
  let c1_i32_130 : BitVec 32 := 1#32
  let arg28 : BitVec 32 := Scf.iv c0_i32_128 c1_i32_130 k0_t3
  let v302 : BitVec 32 := Scalar.muli c2_i32_166 arg28
  let c1_i32_167 : BitVec 32 := 1#32
  let v303 : BitVec 32 := Scalar.addi v302 c1_i32_167
  let v304 : Index := Scalar.indexCast v303
  let c80_168 : Index := 80#32
  ![v304.toNat, 80]
def k0_off33 (k0_t3 : Fin k0_t3_loop.trips) : Fin 2 → Nat :=
  let c2_i32_169 : BitVec 32 := 2#32
  let c0_i32_128 : BitVec 32 := 0#32
  let c1_i32_130 : BitVec 32 := 1#32
  let arg28 : BitVec 32 := Scf.iv c0_i32_128 c1_i32_130 k0_t3
  let v313 : BitVec 32 := Scalar.muli c2_i32_169 arg28
  let v314 : Index := Scalar.indexCast v313
  let c96_170 : Index := 96#32
  ![v314.toNat, 96]
def k0_off34 (k0_t3 : Fin k0_t3_loop.trips) : Fin 2 → Nat :=
  let c2_i32_171 : BitVec 32 := 2#32
  let c0_i32_128 : BitVec 32 := 0#32
  let c1_i32_130 : BitVec 32 := 1#32
  let arg28 : BitVec 32 := Scf.iv c0_i32_128 c1_i32_130 k0_t3
  let v317 : BitVec 32 := Scalar.muli c2_i32_171 arg28
  let c1_i32_172 : BitVec 32 := 1#32
  let v318 : BitVec 32 := Scalar.addi v317 c1_i32_172
  let v319 : Index := Scalar.indexCast v318
  let c96_173 : Index := 96#32
  ![v319.toNat, 96]
def k0_off35 (k0_t3 : Fin k0_t3_loop.trips) : Fin 2 → Nat :=
  let c2_i32_174 : BitVec 32 := 2#32
  let c0_i32_128 : BitVec 32 := 0#32
  let c1_i32_130 : BitVec 32 := 1#32
  let arg28 : BitVec 32 := Scf.iv c0_i32_128 c1_i32_130 k0_t3
  let v328 : BitVec 32 := Scalar.muli c2_i32_174 arg28
  let v329 : Index := Scalar.indexCast v328
  let c112_175 : Index := 112#32
  ![v329.toNat, 112]
def k0_off36 (k0_t3 : Fin k0_t3_loop.trips) : Fin 2 → Nat :=
  let c2_i32_176 : BitVec 32 := 2#32
  let c0_i32_128 : BitVec 32 := 0#32
  let c1_i32_130 : BitVec 32 := 1#32
  let arg28 : BitVec 32 := Scf.iv c0_i32_128 c1_i32_130 k0_t3
  let v332 : BitVec 32 := Scalar.muli c2_i32_176 arg28
  let c1_i32_177 : BitVec 32 := 1#32
  let v333 : BitVec 32 := Scalar.addi v332 c1_i32_177
  let v334 : Index := Scalar.indexCast v333
  let c112_178 : Index := 112#32
  ![v334.toNat, 112]
def k0_cond2 (k0_t1 : Fin k0_t1_loop.trips) : BitVec 1 :=
  let c0_i32_22 : BitVec 32 := 0#32
  let c1_i32 : BitVec 32 := 1#32
  let arg11 : BitVec 32 := Scf.iv c0_i32_22 c1_i32 k0_t1
  let c2_i32_122 : BitVec 32 := 2#32
  let v202 : BitVec 32 := Scalar.muli arg11 c2_i32_122
  let c1_i32_123 : BitVec 32 := 1#32
  let v203 : BitVec 32 := Scalar.addi v202 c1_i32_123
  let c2_i32_132 : BitVec 32 := 2#32
  let v212 : BitVec 32 := Scalar.addi v203 c2_i32_132
  let c18_i32_133 : BitVec 32 := 18#32
  let v213 : BitVec 1 := Scalar.cmpi .slt v212 c18_i32_133
  let v214 : BitVec 32 := Scalar.extui v213
  let c0_i32_134 : BitVec 32 := 0#32
  let v215 : BitVec 1 := Scalar.cmpi .ne v214 c0_i32_134
  v215

def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c3584_i32_137 : BitVec 32 := 3584#32
  let c0_i32_22 : BitVec 32 := 0#32
  let c1_i32 : BitVec 32 := 1#32
  let arg11 : BitVec 32 := Scf.iv c0_i32_22 c1_i32 k0_t1
  let c2_i32_122 : BitVec 32 := 2#32
  let v202 : BitVec 32 := Scalar.muli arg11 c2_i32_122
  let c1_i32_123 : BitVec 32 := 1#32
  let v203 : BitVec 32 := Scalar.addi v202 c1_i32_123
  let c2_i32_135 : BitVec 32 := 2#32
  let v216 : BitVec 32 := Scalar.addi v203 c2_i32_135
  let c256_i32_136 : BitVec 32 := 256#32
  let v217 : BitVec 32 := Scalar.muli v216 c256_i32_136
  let v218 : BitVec 32 := Scalar.addi c3584_i32_137 v217
  let c0_i32_138 : BitVec 32 := 0#32
  ![v3.toNat, v218.toNat, 0]
@[reducible] def k0_t4_loop : Scf.Loop 32 :=
  let c0_i32_74 : BitVec 32 := 0#32
  let c9_i32_75 : BitVec 32 := 9#32
  let v120 : BitVec 32 := Scalar.addi c0_i32_74 c9_i32_75
  let c1_i32_76 : BitVec 32 := 1#32
  ⟨c0_i32_74, v120, c1_i32_76⟩
def k0_off38 (i : grid0.Coords) (k0_t4 : Fin k0_t4_loop.trips) (c0_i32_113 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_48 : BitVec 32 := 2#32
  let v94 : BitVec 32 := Scalar.muli v1 c2_i32_48
  let c1_i32_49 : BitVec 32 := 1#32
  let v95 : BitVec 32 := Scalar.addi v94 c1_i32_49
  let c3584_i32_114 : BitVec 32 := 3584#32
  let c0_i32_74 : BitVec 32 := 0#32
  let c1_i32_76 : BitVec 32 := 1#32
  let arg11 : BitVec 32 := Scf.iv c0_i32_74 c1_i32_76 k0_t4
  let c2_i32_112 : BitVec 32 := 2#32
  let v188 : BitVec 32 := Scalar.muli arg11 c2_i32_112
  let v189 : BitVec 32 := Scalar.addi v188 c0_i32_113
  let c256_i32 : BitVec 32 := 256#32
  let v190 : BitVec 32 := Scalar.muli v189 c256_i32
  let v191 : BitVec 32 := Scalar.addi c3584_i32_114 v190
  let c0_i32_115 : BitVec 32 := 0#32
  ![v95.toNat, v191.toNat, 0]
@[reducible] def k0_t5_loop : Scf.Loop 32 :=
  let c0_i32_117 : BitVec 32 := 0#32
  let c128_i32 : BitVec 32 := 128#32
  let v196 : BitVec 32 := Scalar.addi c0_i32_117 c128_i32
  let c1_i32_118 : BitVec 32 := 1#32
  ⟨c0_i32_117, v196, c1_i32_118⟩
def k0_off39 (k0_t5 : Fin k0_t5_loop.trips) : Fin 2 → Nat :=
  let c2_i32_139 : BitVec 32 := 2#32
  let c0_i32_117 : BitVec 32 := 0#32
  let c1_i32_118 : BitVec 32 := 1#32
  let arg28 : BitVec 32 := Scf.iv c0_i32_117 c1_i32_118 k0_t5
  let v223 : BitVec 32 := Scalar.muli c2_i32_139 arg28
  let v224 : Index := Scalar.indexCast v223
  let c0_140 : Index := 0#32
  ![v224.toNat, 0]
def k0_off40 (k0_t5 : Fin k0_t5_loop.trips) : Fin 2 → Nat :=
  let c2_i32_141 : BitVec 32 := 2#32
  let c0_i32_117 : BitVec 32 := 0#32
  let c1_i32_118 : BitVec 32 := 1#32
  let arg28 : BitVec 32 := Scf.iv c0_i32_117 c1_i32_118 k0_t5
  let v227 : BitVec 32 := Scalar.muli c2_i32_141 arg28
  let c1_i32_142 : BitVec 32 := 1#32
  let v228 : BitVec 32 := Scalar.addi v227 c1_i32_142
  let v229 : Index := Scalar.indexCast v228
  let c0_143 : Index := 0#32
  ![v229.toNat, 0]
def k0_off41 (k0_t5 : Fin k0_t5_loop.trips) : Fin 2 → Nat :=
  let c2_i32_144 : BitVec 32 := 2#32
  let c0_i32_117 : BitVec 32 := 0#32
  let c1_i32_118 : BitVec 32 := 1#32
  let arg28 : BitVec 32 := Scf.iv c0_i32_117 c1_i32_118 k0_t5
  let v238 : BitVec 32 := Scalar.muli c2_i32_144 arg28
  let v239 : Index := Scalar.indexCast v238
  let c16_145 : Index := 16#32
  ![v239.toNat, 16]
def k0_off42 (k0_t5 : Fin k0_t5_loop.trips) : Fin 2 → Nat :=
  let c2_i32_146 : BitVec 32 := 2#32
  let c0_i32_117 : BitVec 32 := 0#32
  let c1_i32_118 : BitVec 32 := 1#32
  let arg28 : BitVec 32 := Scf.iv c0_i32_117 c1_i32_118 k0_t5
  let v242 : BitVec 32 := Scalar.muli c2_i32_146 arg28
  let c1_i32_147 : BitVec 32 := 1#32
  let v243 : BitVec 32 := Scalar.addi v242 c1_i32_147
  let v244 : Index := Scalar.indexCast v243
  let c16_148 : Index := 16#32
  ![v244.toNat, 16]
def k0_off43 (k0_t5 : Fin k0_t5_loop.trips) : Fin 2 → Nat :=
  let c2_i32_149 : BitVec 32 := 2#32
  let c0_i32_117 : BitVec 32 := 0#32
  let c1_i32_118 : BitVec 32 := 1#32
  let arg28 : BitVec 32 := Scf.iv c0_i32_117 c1_i32_118 k0_t5
  let v253 : BitVec 32 := Scalar.muli c2_i32_149 arg28
  let v254 : Index := Scalar.indexCast v253
  let c32_150 : Index := 32#32
  ![v254.toNat, 32]
def k0_off44 (k0_t5 : Fin k0_t5_loop.trips) : Fin 2 → Nat :=
  let c2_i32_151 : BitVec 32 := 2#32
  let c0_i32_117 : BitVec 32 := 0#32
  let c1_i32_118 : BitVec 32 := 1#32
  let arg28 : BitVec 32 := Scf.iv c0_i32_117 c1_i32_118 k0_t5
  let v257 : BitVec 32 := Scalar.muli c2_i32_151 arg28
  let c1_i32_152 : BitVec 32 := 1#32
  let v258 : BitVec 32 := Scalar.addi v257 c1_i32_152
  let v259 : Index := Scalar.indexCast v258
  let c32_153 : Index := 32#32
  ![v259.toNat, 32]
def k0_off45 (k0_t5 : Fin k0_t5_loop.trips) : Fin 2 → Nat :=
  let c2_i32_154 : BitVec 32 := 2#32
  let c0_i32_117 : BitVec 32 := 0#32
  let c1_i32_118 : BitVec 32 := 1#32
  let arg28 : BitVec 32 := Scf.iv c0_i32_117 c1_i32_118 k0_t5
  let v268 : BitVec 32 := Scalar.muli c2_i32_154 arg28
  let v269 : Index := Scalar.indexCast v268
  let c48_155 : Index := 48#32
  ![v269.toNat, 48]
def k0_off46 (k0_t5 : Fin k0_t5_loop.trips) : Fin 2 → Nat :=
  let c2_i32_156 : BitVec 32 := 2#32
  let c0_i32_117 : BitVec 32 := 0#32
  let c1_i32_118 : BitVec 32 := 1#32
  let arg28 : BitVec 32 := Scf.iv c0_i32_117 c1_i32_118 k0_t5
  let v272 : BitVec 32 := Scalar.muli c2_i32_156 arg28
  let c1_i32_157 : BitVec 32 := 1#32
  let v273 : BitVec 32 := Scalar.addi v272 c1_i32_157
  let v274 : Index := Scalar.indexCast v273
  let c48_158 : Index := 48#32
  ![v274.toNat, 48]
def k0_off47 (k0_t5 : Fin k0_t5_loop.trips) : Fin 2 → Nat :=
  let c2_i32_159 : BitVec 32 := 2#32
  let c0_i32_117 : BitVec 32 := 0#32
  let c1_i32_118 : BitVec 32 := 1#32
  let arg28 : BitVec 32 := Scf.iv c0_i32_117 c1_i32_118 k0_t5
  let v283 : BitVec 32 := Scalar.muli c2_i32_159 arg28
  let v284 : Index := Scalar.indexCast v283
  let c64_160 : Index := 64#32
  ![v284.toNat, 64]
def k0_off48 (k0_t5 : Fin k0_t5_loop.trips) : Fin 2 → Nat :=
  let c2_i32_161 : BitVec 32 := 2#32
  let c0_i32_117 : BitVec 32 := 0#32
  let c1_i32_118 : BitVec 32 := 1#32
  let arg28 : BitVec 32 := Scf.iv c0_i32_117 c1_i32_118 k0_t5
  let v287 : BitVec 32 := Scalar.muli c2_i32_161 arg28
  let c1_i32_162 : BitVec 32 := 1#32
  let v288 : BitVec 32 := Scalar.addi v287 c1_i32_162
  let v289 : Index := Scalar.indexCast v288
  let c64_163 : Index := 64#32
  ![v289.toNat, 64]
def k0_off49 (k0_t5 : Fin k0_t5_loop.trips) : Fin 2 → Nat :=
  let c2_i32_164 : BitVec 32 := 2#32
  let c0_i32_117 : BitVec 32 := 0#32
  let c1_i32_118 : BitVec 32 := 1#32
  let arg28 : BitVec 32 := Scf.iv c0_i32_117 c1_i32_118 k0_t5
  let v298 : BitVec 32 := Scalar.muli c2_i32_164 arg28
  let v299 : Index := Scalar.indexCast v298
  let c80_165 : Index := 80#32
  ![v299.toNat, 80]
def k0_off50 (k0_t5 : Fin k0_t5_loop.trips) : Fin 2 → Nat :=
  let c2_i32_166 : BitVec 32 := 2#32
  let c0_i32_117 : BitVec 32 := 0#32
  let c1_i32_118 : BitVec 32 := 1#32
  let arg28 : BitVec 32 := Scf.iv c0_i32_117 c1_i32_118 k0_t5
  let v302 : BitVec 32 := Scalar.muli c2_i32_166 arg28
  let c1_i32_167 : BitVec 32 := 1#32
  let v303 : BitVec 32 := Scalar.addi v302 c1_i32_167
  let v304 : Index := Scalar.indexCast v303
  let c80_168 : Index := 80#32
  ![v304.toNat, 80]
def k0_off51 (k0_t5 : Fin k0_t5_loop.trips) : Fin 2 → Nat :=
  let c2_i32_169 : BitVec 32 := 2#32
  let c0_i32_117 : BitVec 32 := 0#32
  let c1_i32_118 : BitVec 32 := 1#32
  let arg28 : BitVec 32 := Scf.iv c0_i32_117 c1_i32_118 k0_t5
  let v313 : BitVec 32 := Scalar.muli c2_i32_169 arg28
  let v314 : Index := Scalar.indexCast v313
  let c96_170 : Index := 96#32
  ![v314.toNat, 96]
def k0_off52 (k0_t5 : Fin k0_t5_loop.trips) : Fin 2 → Nat :=
  let c2_i32_171 : BitVec 32 := 2#32
  let c0_i32_117 : BitVec 32 := 0#32
  let c1_i32_118 : BitVec 32 := 1#32
  let arg28 : BitVec 32 := Scf.iv c0_i32_117 c1_i32_118 k0_t5
  let v317 : BitVec 32 := Scalar.muli c2_i32_171 arg28
  let c1_i32_172 : BitVec 32 := 1#32
  let v318 : BitVec 32 := Scalar.addi v317 c1_i32_172
  let v319 : Index := Scalar.indexCast v318
  let c96_173 : Index := 96#32
  ![v319.toNat, 96]
def k0_off53 (k0_t5 : Fin k0_t5_loop.trips) : Fin 2 → Nat :=
  let c2_i32_174 : BitVec 32 := 2#32
  let c0_i32_117 : BitVec 32 := 0#32
  let c1_i32_118 : BitVec 32 := 1#32
  let arg28 : BitVec 32 := Scf.iv c0_i32_117 c1_i32_118 k0_t5
  let v328 : BitVec 32 := Scalar.muli c2_i32_174 arg28
  let v329 : Index := Scalar.indexCast v328
  let c112_175 : Index := 112#32
  ![v329.toNat, 112]
def k0_off54 (k0_t5 : Fin k0_t5_loop.trips) : Fin 2 → Nat :=
  let c2_i32_176 : BitVec 32 := 2#32
  let c0_i32_117 : BitVec 32 := 0#32
  let c1_i32_118 : BitVec 32 := 1#32
  let arg28 : BitVec 32 := Scf.iv c0_i32_117 c1_i32_118 k0_t5
  let v332 : BitVec 32 := Scalar.muli c2_i32_176 arg28
  let c1_i32_177 : BitVec 32 := 1#32
  let v333 : BitVec 32 := Scalar.addi v332 c1_i32_177
  let v334 : Index := Scalar.indexCast v333
  let c112_178 : Index := 112#32
  ![v334.toNat, 112]
def k0_cond3 (k0_t4 : Fin k0_t4_loop.trips) : BitVec 1 :=
  let c0_i32_74 : BitVec 32 := 0#32
  let c1_i32_76 : BitVec 32 := 1#32
  let arg11 : BitVec 32 := Scf.iv c0_i32_74 c1_i32_76 k0_t4
  let c2_i32_112 : BitVec 32 := 2#32
  let v188 : BitVec 32 := Scalar.muli arg11 c2_i32_112
  let c0_i32_113 : BitVec 32 := 0#32
  let v189 : BitVec 32 := Scalar.addi v188 c0_i32_113
  let c2_i32_120 : BitVec 32 := 2#32
  let v198 : BitVec 32 := Scalar.addi v189 c2_i32_120
  let c18_i32 : BitVec 32 := 18#32
  let v199 : BitVec 1 := Scalar.cmpi .slt v198 c18_i32
  let v200 : BitVec 32 := Scalar.extui v199
  let c0_i32_121 : BitVec 32 := 0#32
  let v201 : BitVec 1 := Scalar.cmpi .ne v200 c0_i32_121
  v201

def k0_off55 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_48 : BitVec 32 := 2#32
  let v94 : BitVec 32 := Scalar.muli v1 c2_i32_48
  let c1_i32_49 : BitVec 32 := 1#32
  let v95 : BitVec 32 := Scalar.addi v94 c1_i32_49
  let c3584_i32_137 : BitVec 32 := 3584#32
  let c0_i32_74 : BitVec 32 := 0#32
  let c1_i32_76 : BitVec 32 := 1#32
  let arg11 : BitVec 32 := Scf.iv c0_i32_74 c1_i32_76 k0_t4
  let c2_i32_112 : BitVec 32 := 2#32
  let v188 : BitVec 32 := Scalar.muli arg11 c2_i32_112
  let c0_i32_113 : BitVec 32 := 0#32
  let v189 : BitVec 32 := Scalar.addi v188 c0_i32_113
  let c2_i32_135 : BitVec 32 := 2#32
  let v216 : BitVec 32 := Scalar.addi v189 c2_i32_135
  let c256_i32_136 : BitVec 32 := 256#32
  let v217 : BitVec 32 := Scalar.muli v216 c256_i32_136
  let v218 : BitVec 32 := Scalar.addi c3584_i32_137 v217
  let c0_i32_138 : BitVec 32 := 0#32
  ![v95.toNat, v218.toNat, 0]
@[reducible] def k0_t6_loop : Scf.Loop 32 :=
  let c0_i32_128 : BitVec 32 := 0#32
  let c128_i32_129 : BitVec 32 := 128#32
  let v210 : BitVec 32 := Scalar.addi c0_i32_128 c128_i32_129
  let c1_i32_130 : BitVec 32 := 1#32
  ⟨c0_i32_128, v210, c1_i32_130⟩
def k0_off56 (k0_t6 : Fin k0_t6_loop.trips) : Fin 2 → Nat :=
  let c2_i32_139 : BitVec 32 := 2#32
  let c0_i32_128 : BitVec 32 := 0#32
  let c1_i32_130 : BitVec 32 := 1#32
  let arg28 : BitVec 32 := Scf.iv c0_i32_128 c1_i32_130 k0_t6
  let v223 : BitVec 32 := Scalar.muli c2_i32_139 arg28
  let v224 : Index := Scalar.indexCast v223
  let c0_140 : Index := 0#32
  ![v224.toNat, 0]
def k0_off57 (k0_t6 : Fin k0_t6_loop.trips) : Fin 2 → Nat :=
  let c2_i32_141 : BitVec 32 := 2#32
  let c0_i32_128 : BitVec 32 := 0#32
  let c1_i32_130 : BitVec 32 := 1#32
  let arg28 : BitVec 32 := Scf.iv c0_i32_128 c1_i32_130 k0_t6
  let v227 : BitVec 32 := Scalar.muli c2_i32_141 arg28
  let c1_i32_142 : BitVec 32 := 1#32
  let v228 : BitVec 32 := Scalar.addi v227 c1_i32_142
  let v229 : Index := Scalar.indexCast v228
  let c0_143 : Index := 0#32
  ![v229.toNat, 0]
def k0_off58 (k0_t6 : Fin k0_t6_loop.trips) : Fin 2 → Nat :=
  let c2_i32_144 : BitVec 32 := 2#32
  let c0_i32_128 : BitVec 32 := 0#32
  let c1_i32_130 : BitVec 32 := 1#32
  let arg28 : BitVec 32 := Scf.iv c0_i32_128 c1_i32_130 k0_t6
  let v238 : BitVec 32 := Scalar.muli c2_i32_144 arg28
  let v239 : Index := Scalar.indexCast v238
  let c16_145 : Index := 16#32
  ![v239.toNat, 16]
def k0_off59 (k0_t6 : Fin k0_t6_loop.trips) : Fin 2 → Nat :=
  let c2_i32_146 : BitVec 32 := 2#32
  let c0_i32_128 : BitVec 32 := 0#32
  let c1_i32_130 : BitVec 32 := 1#32
  let arg28 : BitVec 32 := Scf.iv c0_i32_128 c1_i32_130 k0_t6
  let v242 : BitVec 32 := Scalar.muli c2_i32_146 arg28
  let c1_i32_147 : BitVec 32 := 1#32
  let v243 : BitVec 32 := Scalar.addi v242 c1_i32_147
  let v244 : Index := Scalar.indexCast v243
  let c16_148 : Index := 16#32
  ![v244.toNat, 16]
def k0_off60 (k0_t6 : Fin k0_t6_loop.trips) : Fin 2 → Nat :=
  let c2_i32_149 : BitVec 32 := 2#32
  let c0_i32_128 : BitVec 32 := 0#32
  let c1_i32_130 : BitVec 32 := 1#32
  let arg28 : BitVec 32 := Scf.iv c0_i32_128 c1_i32_130 k0_t6
  let v253 : BitVec 32 := Scalar.muli c2_i32_149 arg28
  let v254 : Index := Scalar.indexCast v253
  let c32_150 : Index := 32#32
  ![v254.toNat, 32]
def k0_off61 (k0_t6 : Fin k0_t6_loop.trips) : Fin 2 → Nat :=
  let c2_i32_151 : BitVec 32 := 2#32
  let c0_i32_128 : BitVec 32 := 0#32
  let c1_i32_130 : BitVec 32 := 1#32
  let arg28 : BitVec 32 := Scf.iv c0_i32_128 c1_i32_130 k0_t6
  let v257 : BitVec 32 := Scalar.muli c2_i32_151 arg28
  let c1_i32_152 : BitVec 32 := 1#32
  let v258 : BitVec 32 := Scalar.addi v257 c1_i32_152
  let v259 : Index := Scalar.indexCast v258
  let c32_153 : Index := 32#32
  ![v259.toNat, 32]
def k0_off62 (k0_t6 : Fin k0_t6_loop.trips) : Fin 2 → Nat :=
  let c2_i32_154 : BitVec 32 := 2#32
  let c0_i32_128 : BitVec 32 := 0#32
  let c1_i32_130 : BitVec 32 := 1#32
  let arg28 : BitVec 32 := Scf.iv c0_i32_128 c1_i32_130 k0_t6
  let v268 : BitVec 32 := Scalar.muli c2_i32_154 arg28
  let v269 : Index := Scalar.indexCast v268
  let c48_155 : Index := 48#32
  ![v269.toNat, 48]
def k0_off63 (k0_t6 : Fin k0_t6_loop.trips) : Fin 2 → Nat :=
  let c2_i32_156 : BitVec 32 := 2#32
  let c0_i32_128 : BitVec 32 := 0#32
  let c1_i32_130 : BitVec 32 := 1#32
  let arg28 : BitVec 32 := Scf.iv c0_i32_128 c1_i32_130 k0_t6
  let v272 : BitVec 32 := Scalar.muli c2_i32_156 arg28
  let c1_i32_157 : BitVec 32 := 1#32
  let v273 : BitVec 32 := Scalar.addi v272 c1_i32_157
  let v274 : Index := Scalar.indexCast v273
  let c48_158 : Index := 48#32
  ![v274.toNat, 48]
def k0_off64 (k0_t6 : Fin k0_t6_loop.trips) : Fin 2 → Nat :=
  let c2_i32_159 : BitVec 32 := 2#32
  let c0_i32_128 : BitVec 32 := 0#32
  let c1_i32_130 : BitVec 32 := 1#32
  let arg28 : BitVec 32 := Scf.iv c0_i32_128 c1_i32_130 k0_t6
  let v283 : BitVec 32 := Scalar.muli c2_i32_159 arg28
  let v284 : Index := Scalar.indexCast v283
  let c64_160 : Index := 64#32
  ![v284.toNat, 64]
def k0_off65 (k0_t6 : Fin k0_t6_loop.trips) : Fin 2 → Nat :=
  let c2_i32_161 : BitVec 32 := 2#32
  let c0_i32_128 : BitVec 32 := 0#32
  let c1_i32_130 : BitVec 32 := 1#32
  let arg28 : BitVec 32 := Scf.iv c0_i32_128 c1_i32_130 k0_t6
  let v287 : BitVec 32 := Scalar.muli c2_i32_161 arg28
  let c1_i32_162 : BitVec 32 := 1#32
  let v288 : BitVec 32 := Scalar.addi v287 c1_i32_162
  let v289 : Index := Scalar.indexCast v288
  let c64_163 : Index := 64#32
  ![v289.toNat, 64]
def k0_off66 (k0_t6 : Fin k0_t6_loop.trips) : Fin 2 → Nat :=
  let c2_i32_164 : BitVec 32 := 2#32
  let c0_i32_128 : BitVec 32 := 0#32
  let c1_i32_130 : BitVec 32 := 1#32
  let arg28 : BitVec 32 := Scf.iv c0_i32_128 c1_i32_130 k0_t6
  let v298 : BitVec 32 := Scalar.muli c2_i32_164 arg28
  let v299 : Index := Scalar.indexCast v298
  let c80_165 : Index := 80#32
  ![v299.toNat, 80]
def k0_off67 (k0_t6 : Fin k0_t6_loop.trips) : Fin 2 → Nat :=
  let c2_i32_166 : BitVec 32 := 2#32
  let c0_i32_128 : BitVec 32 := 0#32
  let c1_i32_130 : BitVec 32 := 1#32
  let arg28 : BitVec 32 := Scf.iv c0_i32_128 c1_i32_130 k0_t6
  let v302 : BitVec 32 := Scalar.muli c2_i32_166 arg28
  let c1_i32_167 : BitVec 32 := 1#32
  let v303 : BitVec 32 := Scalar.addi v302 c1_i32_167
  let v304 : Index := Scalar.indexCast v303
  let c80_168 : Index := 80#32
  ![v304.toNat, 80]
def k0_off68 (k0_t6 : Fin k0_t6_loop.trips) : Fin 2 → Nat :=
  let c2_i32_169 : BitVec 32 := 2#32
  let c0_i32_128 : BitVec 32 := 0#32
  let c1_i32_130 : BitVec 32 := 1#32
  let arg28 : BitVec 32 := Scf.iv c0_i32_128 c1_i32_130 k0_t6
  let v313 : BitVec 32 := Scalar.muli c2_i32_169 arg28
  let v314 : Index := Scalar.indexCast v313
  let c96_170 : Index := 96#32
  ![v314.toNat, 96]
def k0_off69 (k0_t6 : Fin k0_t6_loop.trips) : Fin 2 → Nat :=
  let c2_i32_171 : BitVec 32 := 2#32
  let c0_i32_128 : BitVec 32 := 0#32
  let c1_i32_130 : BitVec 32 := 1#32
  let arg28 : BitVec 32 := Scf.iv c0_i32_128 c1_i32_130 k0_t6
  let v317 : BitVec 32 := Scalar.muli c2_i32_171 arg28
  let c1_i32_172 : BitVec 32 := 1#32
  let v318 : BitVec 32 := Scalar.addi v317 c1_i32_172
  let v319 : Index := Scalar.indexCast v318
  let c96_173 : Index := 96#32
  ![v319.toNat, 96]
def k0_off70 (k0_t6 : Fin k0_t6_loop.trips) : Fin 2 → Nat :=
  let c2_i32_174 : BitVec 32 := 2#32
  let c0_i32_128 : BitVec 32 := 0#32
  let c1_i32_130 : BitVec 32 := 1#32
  let arg28 : BitVec 32 := Scf.iv c0_i32_128 c1_i32_130 k0_t6
  let v328 : BitVec 32 := Scalar.muli c2_i32_174 arg28
  let v329 : Index := Scalar.indexCast v328
  let c112_175 : Index := 112#32
  ![v329.toNat, 112]
def k0_off71 (k0_t6 : Fin k0_t6_loop.trips) : Fin 2 → Nat :=
  let c2_i32_176 : BitVec 32 := 2#32
  let c0_i32_128 : BitVec 32 := 0#32
  let c1_i32_130 : BitVec 32 := 1#32
  let arg28 : BitVec 32 := Scf.iv c0_i32_128 c1_i32_130 k0_t6
  let v332 : BitVec 32 := Scalar.muli c2_i32_176 arg28
  let c1_i32_177 : BitVec 32 := 1#32
  let v333 : BitVec 32 := Scalar.addi v332 c1_i32_177
  let v334 : Index := Scalar.indexCast v333
  let c112_178 : Index := 112#32
  ![v334.toNat, 112]
def k0_cond4 (k0_t4 : Fin k0_t4_loop.trips) : BitVec 1 :=
  let c0_i32_74 : BitVec 32 := 0#32
  let c1_i32_76 : BitVec 32 := 1#32
  let arg11 : BitVec 32 := Scf.iv c0_i32_74 c1_i32_76 k0_t4
  let c2_i32_122 : BitVec 32 := 2#32
  let v202 : BitVec 32 := Scalar.muli arg11 c2_i32_122
  let c1_i32_123 : BitVec 32 := 1#32
  let v203 : BitVec 32 := Scalar.addi v202 c1_i32_123
  let c2_i32_132 : BitVec 32 := 2#32
  let v212 : BitVec 32 := Scalar.addi v203 c2_i32_132
  let c18_i32_133 : BitVec 32 := 18#32
  let v213 : BitVec 1 := Scalar.cmpi .slt v212 c18_i32_133
  let v214 : BitVec 32 := Scalar.extui v213
  let c0_i32_134 : BitVec 32 := 0#32
  let v215 : BitVec 1 := Scalar.cmpi .ne v214 c0_i32_134
  v215

def k0_off72 (i : grid0.Coords) (k0_t4 : Fin k0_t4_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_48 : BitVec 32 := 2#32
  let v94 : BitVec 32 := Scalar.muli v1 c2_i32_48
  let c1_i32_49 : BitVec 32 := 1#32
  let v95 : BitVec 32 := Scalar.addi v94 c1_i32_49
  let c3584_i32_137 : BitVec 32 := 3584#32
  let c0_i32_74 : BitVec 32 := 0#32
  let c1_i32_76 : BitVec 32 := 1#32
  let arg11 : BitVec 32 := Scf.iv c0_i32_74 c1_i32_76 k0_t4
  let c2_i32_122 : BitVec 32 := 2#32
  let v202 : BitVec 32 := Scalar.muli arg11 c2_i32_122
  let c1_i32_123 : BitVec 32 := 1#32
  let v203 : BitVec 32 := Scalar.addi v202 c1_i32_123
  let c2_i32_135 : BitVec 32 := 2#32
  let v216 : BitVec 32 := Scalar.addi v203 c2_i32_135
  let c256_i32_136 : BitVec 32 := 256#32
  let v217 : BitVec 32 := Scalar.muli v216 c256_i32_136
  let v218 : BitVec 32 := Scalar.addi c3584_i32_137 v217
  let c0_i32_138 : BitVec 32 := 0#32
  ![v95.toNat, v218.toNat, 0]
def k0_off73 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_110 : BitVec 32 := 2#32
  let v186 : BitVec 32 := Scalar.muli v1 c2_i32_110
  let c0_i32_112_r0 : BitVec 32 := 0#32
  ![v186.toNat, 0]
abbrev grid1 : Pipeline.Grid := ⟨1, ![64], ![false]⟩

@[reducible] def k1_t1_loop : Scf.Loop 32 :=
  let c0_i32_0 : BitVec 32 := 0#32
  let c56_i32 : BitVec 32 := 56#32
  let v3 : BitVec 32 := Scalar.addi c0_i32_0 c56_i32
  let c1_i32 : BitVec 32 := 1#32
  ⟨c0_i32_0, v3, c1_i32⟩
def k1_off1 (k1_t1 : Fin k1_t1_loop.trips) : Fin 3 → Nat :=
  let c0_9 : Index := 0#32
  let c0_i32_0 : BitVec 32 := 0#32
  let c1_i32 : BitVec 32 := 1#32
  let arg4 : BitVec 32 := Scf.iv c0_i32_0 c1_i32 k1_t1
  let c64_i32 : BitVec 32 := 64#32
  let v18 : BitVec 32 := Scalar.muli arg4 c64_i32
  let v19 : Index := Scalar.indexCast v18
  let c0_10 : Index := 0#32
  ![0, v19.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3584x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S64x1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x1x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x8192x128 : Shape := ⟨3, ![64, 8192, 128]⟩
abbrev S_ : Shape := ⟨0, ![]⟩
abbrev S64x128 : Shape := ⟨2, ![64, 128]⟩

abbrev nBuf : Space → Nat
  | .hbm => 6
  | .vmem => 0
  | .smem => 0
  | _ => 0

abbrev bufTy : (tb : Table) → Fin (tcTables nBuf tb) → BufTy
  | .hbm, ⟨0, _⟩ => ⟨S64x8192x128, .f32⟩
  | .hbm, ⟨1, _⟩ => ⟨S64x8192x128, .i32⟩
  | .hbm, ⟨2, _⟩ => ⟨S_, .f32⟩
  | .hbm, ⟨3, _⟩ => ⟨S_, .i32⟩
  | .hbm, ⟨4, _⟩ => ⟨S64x128, .f32⟩
  | .hbm, ⟨5, _⟩ => ⟨S64x128, .i32⟩
  | _, _ => ⟨S64x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.Scan.lean ====
/-
  The running minimum a SparseCore tile keeps, as plain functions.

  A tile walks rows 3584, 3585, … of one batch two at a time.  For each of the 128 columns it carries the least value met
  so far and the row where it was met first.  `scan X b c n` is that pair after `n` row pairs of column `c` of batch `b`;
  `valV`, `idxV` group sixteen neighbouring columns, the width of one vector register.  The lemmas say that one trip of the
  kernel's row loop, spelt with the vector operations, is one step of `scan`.
-/
module

public import proofs.«01_k».proof.Defs
public import Idealize.ShloMosaic.Lib.Tactic
public import Idealize.ShloMosaic.Lib.ValueIdxCore
public import Idealize.ShloMosaic.Lib.Pipeline.Value
public import proofs.«01_k».proof.Proof.Gen.KernelIdeal

@[expose] public section

noncomputable section

namespace Cert.Proof.Scan

open Cert.KernelIdeal Cert.KernelIdeal.Gen
open Idealize.ShloMosaic
open Idealize.ShloMosaic.ValueIdx

variable {F : FTy → Type}

/-- The input at row `r` of column `c` of batch `b`, for a row number that may be any natural (taken modulo 8192). -/
def xAt (X : FVec F S64x8192x128 .f32) (b : Fin 64) (c : Fin 128) (r : ℕ) : F .f32 :=
  X (ix3 b (Fin.ofNat 8192 r) c)

theorem xAt_eq (X : FVec F S64x8192x128 .f32) (b : Fin 64) (c : Fin 128) (r : ℕ) (j : S64x8192x128.Idx)
    (h0 : (j 0).val = b.val) (h1 : (j 1).val = r) (h2 : (j 2).val = c.val) : X j = xAt X b c r := by
  unfold xAt
  refine congrArg X (funext fun a => Fin.ext ?_)
  match a with
  | ⟨0, _⟩ => exact h0
  | ⟨1, _⟩ =>
    have hlt : (j 1).val < 8192 := (j 1).isLt
    show (j 1).val = r % 8192
    omega
  | ⟨2, _⟩ => exact h2

variable [FloatOps F]

/-- One step of the running minimum: the pair's less value `u ⊓ v` with its row (`base`, or `base + 1` when the second
    is less) replaces the carried pair when it is strictly less. -/
def pairStep (u v : F .f32) (base : BitVec 32) (s : F .f32 × BitVec 32) : F .f32 × BitVec 32 :=
  (FloatOps.minimumf s.1 (FloatOps.minimumf u v),
    Scalar.select (FloatOps.cmpf .olt (FloatOps.minimumf u v) s.1)
      (Scalar.select (FloatOps.cmpf .olt v u) (base + 1#32) base) s.2)

/-- The carried pair after `n` row pairs from row 3584 on; it starts at plus infinity and row 0. -/
def scan (X : FVec F S64x8192x128 .f32) (b : Fin 64) (c : Fin 128) : ℕ → F .f32 × BitVec 32
  | 0 => (Scalar.ofBits .f32 0x7F800000#32, 0#32)
  | n + 1 => pairStep (xAt X b c (3584 + 2 * n)) (xAt X b c (3584 + 2 * n + 1)) (BitVec.ofNat 32 (3584 + 2 * n)) (scan X b c n)

/-- Lane `l` of lane group `j` is column `16 j + l`. -/
def col (j : Fin 8) (l : S16.Idx) : Fin 128 := ⟨16 * j.val + (l 0).val, by have := j.isLt; have h : (l 0).val < 16 := (l 0).isLt; omega⟩

/-- The carried values of lane group `j` as one vector; -/
def valV (X : FVec F S64x8192x128 .f32) (b : Fin 64) (j : Fin 8) (n : ℕ) : FVec F S16 .f32 := fun l => (scan X b (col j l) n).1
/-- and the carried rows. -/
def idxV (X : FVec F S64x8192x128 .f32) (b : Fin 64) (j : Fin 8) (n : ℕ) : IVec S16 32 := fun l => (scan X b (col j l) n).2

/-- What a row loop carries: the eight groups' values, then their rows. -/
abbrev Acc (F : FTy → Type) : Type :=
  FVec F S16 .f32 × FVec F S16 .f32 × FVec F S16 .f32 × FVec F S16 .f32 × FVec F S16 .f32 × FVec F S16 .f32 × FVec F S16 .f32
    × FVec F S16 .f32 × IVec S16 32 × IVec S16 32 × IVec S16 32 × IVec S16 32 × IVec S16 32 × IVec S16 32 × IVec S16 32 × IVec S16 32

/-- The carry after `n` row pairs. -/
abbrev tup (X : FVec F S64x8192x128 .f32) (b : Fin 64) (n : ℕ) : Acc F :=
  (valV X b 0 n, valV X b 1 n, valV X b 2 n, valV X b 3 n, valV X b 4 n, valV X b 5 n, valV X b 6 n, valV X b 7 n,
    idxV X b 0 n, idxV X b 1 n, idxV X b 2 n, idxV X b 3 n, idxV X b 4 n, idxV X b 5 n, idxV X b 6 n, idxV X b 7 n)

theorem tup_zero (X : FVec F S64x8192x128 .f32) (b : Fin 64) :
    tup X b 0 = (broadcast S16 (Scalar.ofBits .f32 0x7F800000#32), broadcast S16 (Scalar.ofBits .f32 0x7F800000#32),
      broadcast S16 (Scalar.ofBits .f32 0x7F800000#32), broadcast S16 (Scalar.ofBits .f32 0x7F800000#32),
      broadcast S16 (Scalar.ofBits .f32 0x7F800000#32), broadcast S16 (Scalar.ofBits .f32 0x7F800000#32),
      broadcast S16 (Scalar.ofBits .f32 0x7F800000#32), broadcast S16 (Scalar.ofBits .f32 0x7F800000#32),
      broadcast S16 0#32, broadcast S16 0#32, broadcast S16 0#32, broadcast S16 0#32,
      broadcast S16 0#32, broadcast S16 0#32, broadcast S16 0#32, broadcast S16 0#32) := rfl

/-- A sixteen-lane piece `w` of a buffer row, cast to a vector, at lane `l`. -/
theorem lane_cast {α : Type} (w : S1x16.Idx → α) (l : S16.Idx) :
    shapeCast S16 w shapeCasts_S1x16_S16 l = w (ix2 (0 : Fin 1) (l 0)) := by
  refine shapeCast_apply w _ l _ ?_
  rw [Shape.rowMajor_val_two, Shape.rowMajor_val_one]
  show 0 * 16 + (l 0).val = (l 0).val
  omega

/-- The same the other way: a vector stored as a one-row piece. -/
theorem row_cast {α : Type} (w : S16.Idx → α) (k : S1x16.Idx) :
    shapeCast S1x16 w shapeCasts_S16_S1x16 k = w (ix1 (k 1)) := by
  refine shapeCast_apply w _ k _ ?_
  rw [Shape.rowMajor_val_two, Shape.rowMajor_val_one]
  have h0 : (k 0).val < 1 := (k 0).isLt
  show (k 1).val = (k 0).val * 16 + (k 1).val
  omega

/-- One trip's new value of lane group `j`: from the two rows' pieces `u`, `v` (reading the input's rows at the group's
    columns) the carried values after one more pair. -/
theorem valV_succ (X : FVec F S64x8192x128 .f32) (b : Fin 64) (j : Fin 8) (n : ℕ) (u v : S1x16.Idx → F .f32)
    (hu : ∀ l : S16.Idx, u (ix2 (0 : Fin 1) (l 0)) = xAt X b (col j l) (3584 + 2 * n))
    (hv : ∀ l : S16.Idx, v (ix2 (0 : Fin 1) (l 0)) = xAt X b (col j l) (3584 + 2 * n + 1)) :
    minimumf (valV X b j n) (minimumf (shapeCast S16 u shapeCasts_S1x16_S16) (shapeCast S16 v shapeCasts_S1x16_S16))
      = valV X b j (n + 1) := by
  funext l
  show FloatOps.minimumf _ (FloatOps.minimumf _ _) = FloatOps.minimumf _ (FloatOps.minimumf _ _)
  rw [lane_cast, lane_cast, hu, hv]; rfl

/-- The new rows likewise, `base` being the pair's first row number. -/
theorem idxV_succ (X : FVec F S64x8192x128 .f32) (b : Fin 64) (j : Fin 8) (n : ℕ) (u v : S1x16.Idx → F .f32)
    (hu : ∀ l : S16.Idx, u (ix2 (0 : Fin 1) (l 0)) = xAt X b (col j l) (3584 + 2 * n))
    (hv : ∀ l : S16.Idx, v (ix2 (0 : Fin 1) (l 0)) = xAt X b (col j l) (3584 + 2 * n + 1))
    (base : BitVec 32) (hb : base = BitVec.ofNat 32 (3584 + 2 * n)) :
    select (cmpf .olt (minimumf (shapeCast S16 u shapeCasts_S1x16_S16) (shapeCast S16 v shapeCasts_S1x16_S16)) (valV X b j n))
        (select (cmpf .olt (shapeCast S16 v shapeCasts_S1x16_S16) (shapeCast S16 u shapeCasts_S1x16_S16))
          (broadcast S16 (Scalar.addi base 1#32)) (broadcast S16 base)) (idxV X b j n)
      = idxV X b j (n + 1) := by
  subst hb
  funext l
  show Scalar.select (FloatOps.cmpf .olt (FloatOps.minimumf _ _) _) (Scalar.select (FloatOps.cmpf .olt _ _) _ _) _
    = Scalar.select (FloatOps.cmpf .olt (FloatOps.minimumf _ _) _) (Scalar.select (FloatOps.cmpf .olt _ _) _ _) _
  rw [lane_cast, lane_cast, hu, hv]; rfl

/-- What a read piece must be: row `r` of the input at lane group `j`'s columns. -/
def Reads (X : FVec F S64x8192x128 .f32) (b : Fin 64) (j : Fin 8) (r : ℕ) (u : S1x16.Idx → F .f32) : Prop :=
  ∀ l : S16.Idx, u (ix2 (0 : Fin 1) (l 0)) = xAt X b (col j l) r

/-- Lane group `j`'s new value `a` and new row `i` as the kernel computes them from the pieces it has read. -/
def Step (X : FVec F S64x8192x128 .f32) (b : Fin 64) (n : ℕ) (base : BitVec 32) (j : Fin 8) (a : FVec F S16 .f32) (i : IVec S16 32) : Prop :=
  ∃ u v : S1x16.Idx → F .f32, Reads X b j (3584 + 2 * n) u ∧ Reads X b j (3584 + 2 * n + 1) v
    ∧ a = minimumf (valV X b j n) (minimumf (shapeCast S16 u shapeCasts_S1x16_S16) (shapeCast S16 v shapeCasts_S1x16_S16))
    ∧ i = select (cmpf .olt (minimumf (shapeCast S16 u shapeCasts_S1x16_S16) (shapeCast S16 v shapeCasts_S1x16_S16)) (valV X b j n))
        (select (cmpf .olt (shapeCast S16 v shapeCasts_S1x16_S16) (shapeCast S16 u shapeCasts_S1x16_S16))
          (broadcast S16 (Scalar.addi base 1#32)) (broadcast S16 base)) (idxV X b j n)

/-- Eight such groups side by side are the next carry. -/
theorem tup_step (X : FVec F S64x8192x128 .f32) (b : Fin 64) (n : ℕ) (base : BitVec 32) (hb : base = BitVec.ofNat 32 (3584 + 2 * n))
    {a0 a1 a2 a3 a4 a5 a6 a7 : FVec F S16 .f32} {i0 i1 i2 i3 i4 i5 i6 i7 : IVec S16 32}
    (h0 : Step X b n base 0 a0 i0) (h1 : Step X b n base 1 a1 i1) (h2 : Step X b n base 2 a2 i2) (h3 : Step X b n base 3 a3 i3)
    (h4 : Step X b n base 4 a4 i4) (h5 : Step X b n base 5 a5 i5) (h6 : Step X b n base 6 a6 i6) (h7 : Step X b n base 7 a7 i7) :
    ((a0, a1, a2, a3, a4, a5, a6, a7, i0, i1, i2, i3, i4, i5, i6, i7) : Acc F) = tup X b (n + 1) := by
  have key : ∀ {j : Fin 8} {a : FVec F S16 .f32} {i : IVec S16 32}, Step X b n base j a i → a = valV X b j (n + 1) ∧ i = idxV X b j (n + 1) := by
    rintro j a i ⟨u, v, hu, hv, rfl, rfl⟩
    exact ⟨valV_succ X b j n u v hu hv, idxV_succ X b j n u v hu hv base hb⟩
  obtain ⟨rfl, rfl⟩ := key h0; obtain ⟨rfl, rfl⟩ := key h1; obtain ⟨rfl, rfl⟩ := key h2; obtain ⟨rfl, rfl⟩ := key h3
  obtain ⟨rfl, rfl⟩ := key h4; obtain ⟨rfl, rfl⟩ := key h5; obtain ⟨rfl, rfl⟩ := key h6; obtain ⟨rfl, rfl⟩ := key h7
  rfl

/-- The first row of a pair as the kernel's words compute it, from the chunk loop's counter and the row loop's: in a batch's
    even chunks, -/
theorem base_even : ∀ (k : Fin 9) (t : Fin 128),
    Scalar.addi (Scalar.addi 3584#32 (Scalar.muli (Scalar.addi (Scalar.muli (Scf.iv 0#32 1#32 k) 2#32) 0#32) 256#32)) (Scalar.muli 2#32 (Scf.iv 0#32 1#32 t))
      = BitVec.ofNat 32 (3584 + 2 * (256 * k.val + t.val)) := by decide +kernel
/-- and in its odd chunks. -/
theorem base_odd : ∀ (k : Fin 9) (t : Fin 128),
    Scalar.addi (Scalar.addi 3584#32 (Scalar.muli (Scalar.addi (Scalar.muli (Scf.iv 0#32 1#32 k) 2#32) 1#32) 256#32)) (Scalar.muli 2#32 (Scf.iv 0#32 1#32 t))
      = BitVec.ofNat 32 (3584 + 2 * (256 * k.val + 128 + t.val)) := by decide +kernel

end Cert.Proof.Scan
-- ==== Proof.Setup.lean ====
/-
  The kernel as the launch theorem for SparseCore programs sees it: the handshakes' facts, the resource algebra, the arrays
  and scratch buffers by name, the blocks of the two result arrays each tile owns, and what the call's handshakes carry.

  The one SparseCore call deals every tile (SparseCore `c`, vector subcore `i`) a read share of the input and two rows,
  `4 i + 2 c` and the next, of each of the two result arrays; the tile hands them back with those rows holding, for the
  rows 3584 … 8191 of the tile's two batches, the least value of each column and the row where it stands first.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Ring
public import proofs.«01_k».proof.Proof.Gen.KernelIdeal
public import proofs.«01_k».proof.Proof.Gen.KernelIdeal.Skeleton
public import proofs.«01_k».proof.Proof.Gen.KernelIdeal.Launch
public import proofs.«01_k».proof.Proof.Scan

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore calls' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- Where the handshakes' rounds lie; -/
abbrev EH : Emb UH (MT nD τ sig (HIx 1) (Elt F) ℕ UU ℕ) := embL
/-- and where the TensorCore calls' rounds lie. -/
def EP : Emb UP (MT nD τ sig (HIx 1) (Elt F) ℕ UU ℕ) :=
  (Emb.inl : Emb UP (UP × Counters)).trans
    ((Emb.inr : Emb (UP × Counters) UU).trans (uEmb (nD := nD) (τ := τ) (sig := sig) (Ix := HIx 1) (Val := Elt F) (Name := ℕ) (U := UU) (Lvl := ℕ)).toEmb)

instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

/-- The input; the SparseCore call's rows and values; the first TensorCore call's values and rows; the result. -/
abbrev xLoc (d : Dev nD) : Loc nD τ sig := (SparseCore.T d).loc main_arg0
abbrev iLoc (d : Dev nD) : Loc nD τ sig := (SparseCore.T d).loc main_v0_0
abbrev vLoc (d : Dev nD) : Loc nD τ sig := (SparseCore.T d).loc main_v0_1

local notation "xV" => (Memref.whole Cert.KernelIdeal.main_arg0_scv : Memref Cert.KernelIdeal.sig Kind.scVector Space.hbm Cert.KernelIdeal.S64x8192x128 EltTy.f32)
local notation "iV" => (Memref.whole Cert.KernelIdeal.main_v0_0_scv : Memref Cert.KernelIdeal.sig Kind.scVector Space.hbm Cert.KernelIdeal.S64x128 EltTy.i32)
local notation "vV" => (Memref.whole Cert.KernelIdeal.main_v0_1_scv : Memref Cert.KernelIdeal.sig Kind.scVector Space.hbm Cert.KernelIdeal.S64x128 EltTy.f32)
local notation "aV" => (Memref.whole Cert.KernelIdeal.cc0_scratch0 : Memref Cert.KernelIdeal.sig Kind.scVector Space.vmem Cert.KernelIdeal.S256x128 EltTy.f32)
local notation "bV" => (Memref.whole Cert.KernelIdeal.cc0_scratch1 : Memref Cert.KernelIdeal.sig Kind.scVector Space.vmem Cert.KernelIdeal.S256x128 EltTy.f32)
local notation "piV" => (Memref.whole Cert.KernelIdeal.cc0_scratch2 : Memref Cert.KernelIdeal.sig Kind.scVector Space.vmem Cert.KernelIdeal.S2x128 EltTy.i32)
local notation "pvV" => (Memref.whole Cert.KernelIdeal.cc0_scratch3 : Memref Cert.KernelIdeal.sig Kind.scVector Space.vmem Cert.KernelIdeal.S2x128 EltTy.f32)

/-- The input's launch contents as an array. -/
abbrev X0 (d : Dev nD) : FVec F S64x8192x128 .f32 := m (xLoc d)

/-- Tile `p = (c, i)`'s two rows of a result array: block `2 i + c` of the array's thirty-two two-row blocks. -/
abbrev oix (p : Fin 2 × Fin 16) : Fin 2 → Nat := ![2 * p.2.val + p.1.val, 0]
theorem oblk_inb (p : Fin 2 × Fin 16) : ∀ a, (oix p a + 1) * S2x128.size a ≤ S64x128.size a := by
  have := p.1.isLt; have := p.2.isLt; intro a; fin_cases a
  · show (2 * p.2.val + p.1.val + 1) * 2 ≤ 64; omega
  · show (0 + 1) * 128 ≤ 128; omega
abbrev oblk (p : Fin 2 × Fin 16) : Rect S64x128 := Rect.block S2x128.size (oix p) (oblk_inb p)

/-- Tile `p`'s read share of the input. -/
abbrev xq (p : Fin 2 × Fin 16) : PosShare TreeShare := Transfers.shareTok (Transfers.shareTok fullShare 2 p.1) 16 p.2

variable [FloatOps F]

/-- What the SparseCore call leaves: at batch `j 0`, column `j 1`, the row of the least value among rows 3584 … 8191, -/
def SCI (d : Dev nD) : IVec S64x128 32 := fun j => (scan (X0 m d) (j 0) (j 1) 2304).2
/-- and that value. -/
def SCV (d : Dev nD) : FVec F S64x128 .f32 := fun j => (scan (X0 m d) (j 0) (j 1) 2304).1

/-! ## What the handshakes carry -/

abbrev xShPts (d : Dev nD) (p : Fin 2 × Fin 16) : sProp 𝕄 := xLoc d ↦{xq p} m (xLoc d)
abbrev iBlkPts (d : Dev nD) (p : Fin 2 × Fin 16) (f : Buf (Elt F) (iLoc d)) : sProp 𝕄 := iLoc d ↦[(oblk p).set]{fullShare} f
abbrev vBlkPts (d : Dev nD) (p : Fin 2 × Fin 16) (f : Buf (Elt F) (vLoc d)) : sProp 𝕄 := vLoc d ↦[(oblk p).set]{fullShare} f

/-- What tile `p` is handed, -/
abbrev goR (d : Dev nD) (p : Fin 2 × Fin 16) : sProp 𝕄 :=
  iprop(xShPts m d p ∗ iBlkPts d p (m (iLoc d)) ∗ vBlkPts d p (m (vLoc d)))
/-- and what it hands back. -/
abbrev tdR (d : Dev nD) (p : Fin 2 × Fin 16) : sProp 𝕄 :=
  iprop(xShPts m d p ∗ iBlkPts d p (SCI m d) ∗ vBlkPts d p (SCV m d))

/-- The call's payloads: each SparseCore gets what its sixteen tiles need, side by side, and returns what they return. -/
def P : (K (F := F)).Pay (nD := nD) (Val := Elt F) (Name := ℕ) (U := UU) where
  st := fun q d c => match q with | 0 => bigSep Finset.univ fun i : Fin 16 => goR m d (Fin.cast nCore_zero c, i)
  dn := fun q d c => match q with | 0 => bigSep Finset.univ fun i : Fin 16 => tdR m d (Fin.cast nCore_zero c, i)
  go := fun q d c i => match q with | 0 => goR m d (Fin.cast nCore_zero c, Fin.cast nSub_zero i)
  td := fun q d c i => match q with | 0 => tdR m d (Fin.cast nCore_zero c, Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goR m d (Fin.cast nCore_zero c, i)))
  dn q d c := match q with
    | 0 => (inferInstance : BI.Storable (upEmb : UEmb _ 𝕄) (bigSep Finset.univ fun i : Fin 16 => tdR m d (Fin.cast nCore_zero c, i)))
  go q d c i := match q with
    | 0 => (inferInstance : BI.Storable (upEmb : UEmb _ 𝕄) (goR m d (Fin.cast nCore_zero c, Fin.cast nSub_zero i)))
  td q d c i := match q with
    | 0 => (inferInstance : BI.Storable (upEmb : UEmb _ 𝕄) (tdR m d (Fin.cast nCore_zero c, Fin.cast nSub_zero i)))

/-- Each SparseCore's payload is already its tiles' payloads side by side. -/
theorem vecSplit : (K (F := F)).VecSplit' (P m) 0 := by
  intro d c
  show (bigSep Finset.univ fun i : Fin 16 => goR m d (Fin.cast nCore_zero c, i)) ⊢ |={Set.univ}=> iprop(
      (bigSep Finset.univ fun i : Fin ((K (F := F)).nSub 0) => goR m d (Fin.cast nCore_zero c, Fin.cast nSub_zero i))
      ∗ ((bigSep Finset.univ fun i : Fin ((K (F := F)).nSub 0) => tdR m d (Fin.cast nCore_zero c, Fin.cast nSub_zero i))
          -∗ bigSep Finset.univ fun i : Fin 16 => tdR m d (Fin.cast nCore_zero c, i)))
  iintro H; imodintro
  isplitl [H]; · iexact H
  iintro H; iexact H

/-! ## The tile's place, cells and buffers -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The tile as a pair of its SparseCore and its number there. -/
abbrev pL (L : grid0.Coords) : Fin 2 × Fin 16 := (Fin.cast bound_zero (L 0), Fin.cast bound_one (L 1))
abbrev VT (d : Dev nD) (L : grid0.Coords) : Thread nD τ := V d (cV L) (jV L)

/-- The tile's two result rows as the body slices them. -/
abbrev orect (L : grid0.Coords) : Rect S64x128 := Rect.unit (s := S64x128) (k0_off73 L) S2x128.size (k0_off73_inb L)
abbrev iBlkM (L : grid0.Coords) : Memref sig .scVector .hbm S2x128 .i32 := (iV).slice (orect L) (fun _ => rfl)
abbrev vBlkM (L : grid0.Coords) : Memref sig .scVector .hbm S2x128 .f32 := (vV).slice (orect L) (fun _ => rfl)

omit [FloatOps F] in
theorem orect_eq : orect L = oblk (pL L) := by
  unfold orect oblk Rect.block
  congr 1; funext a; rw [k0_off73_eq]
  match a with
  | 0 => show 4 * (L 1).val + 2 * (L 0).val = (2 * (L 1).val + (L 0).val) * 2; omega
  | 1 => rfl

omit [FloatOps F] in
theorem set_iBlkM : (iBlkM L).view.set = (oblk (pL L)).set := by
  show ((iV).view.slice (orect L)).set = _
  rw [View.set_slice_whole, orect_eq]
omit [FloatOps F] in
theorem set_vBlkM : (vBlkM L).view.set = (oblk (pL L)).set := by
  show ((vV).view.slice (orect L)).set = _
  rw [View.set_slice_whole, orect_eq]

omit [FloatOps F] in
theorem pts_iBlkM (f : Buf (Elt F) (iLoc d)) :
    ((iBlkM L).view.loc (VT d L) ↦[(iBlkM L).view.set]{fullShare} f : sProp 𝕄) = iLoc d ↦[(oblk (pL L)).set]{fullShare} f := by
  rw [set_iBlkM]
omit [FloatOps F] in
theorem pts_vBlkM (f : Buf (Elt F) (vLoc d)) :
    ((vBlkM L).view.loc (VT d L) ↦[(vBlkM L).view.set]{fullShare} f : sProp 𝕄) = vLoc d ↦[(oblk (pL L)).set]{fullShare} f := by
  rw [set_vBlkM]
omit [FloatOps F] in
theorem pts_xV (q : PosShare TreeShare) (f : Buf (Elt F) (xLoc d)) :
    ((xV).view.loc (VT d L) ↦{q} f : sProp 𝕄) = xLoc d ↦{q} f := rfl

/-- The four semaphore cells the task names: one for each of the two chunk buffers, one for each result copy. -/
abbrev csem (k : Nat) (hk : k < 4 := by decide) : DmaSem sig := ⟨k, Nat.lt_of_lt_of_le hk (by decide)⟩
abbrev dcell (d : Dev nD) (c : Fin τ.nSC) (i : Fin τ.nSub) (k : Fin 4) : GSem nD τ sig := (V d c i, .dma (csem k.val k.isLt))
/-- The four cells at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0)

omit [FloatOps F] in
theorem dcell_mem (c : Fin τ.nSC) (i : Fin τ.nSub) (k : Fin 4) : dcell d c i k ∈ ownCells (V d c i) :=
  mem_ownCells.mpr ⟨rfl, (show ∀ k : Fin 4, (SemLoc.dma (csem k.val k.isLt) : SemLoc sig).isScoped .scVector = true by decide) _⟩

omit [FloatOps F] in
/-- The tile's own cells at zero: the four the task names, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide),
    bigSep_singleton]
  rfl

omit [FloatOps F] in
/-- The tile's own buffers: the two chunk buffers, the two result buffers, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ho : ∀ r : Ref sig .scVector, r ∈ [cc0_scratch0, cc0_scratch1, cc0_scratch2, cc0_scratch3] →
      (Proc.scVector (cV L) (jV L)).devRef r ∈ ownRefs (τ := τ) (.scVector (cV L) (jV L)) := by
    intro r hr
    refine SparseCore.Cfg.mem_ownRefs_of_owner (p := Proc.scVector (cV L) (jV L)) (b := (Proc.scVector (cV L) (jV L)).devRef r) ?_
    simp only [List.mem_cons, List.not_mem_nil, or_false] at hr
    rcases hr with rfl | rfl | rfl | rfl <;> rfl
  have hn : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (ho cc0_scratch0 (by simp))).trans ?_
  rw [SparseCore.bigSep_erase' (Finset.mem_erase.mpr ⟨hn cc0_scratch1 cc0_scratch0 (by decide), ho cc0_scratch1 (by simp)⟩),
    SparseCore.bigSep_erase' (Finset.mem_erase.mpr ⟨hn cc0_scratch2 cc0_scratch1 (by decide),
      Finset.mem_erase.mpr ⟨hn cc0_scratch2 cc0_scratch0 (by decide), ho cc0_scratch2 (by simp)⟩⟩),
    SparseCore.bigSep_erase' (Finset.mem_erase.mpr ⟨hn cc0_scratch3 cc0_scratch2 (by decide),
      Finset.mem_erase.mpr ⟨hn cc0_scratch3 cc0_scratch1 (by decide),
        Finset.mem_erase.mpr ⟨hn cc0_scratch3 cc0_scratch0 (by decide), ho cc0_scratch3 (by simp)⟩⟩⟩)]

end Tile

end Cert.Proof
-- ==== Proof.Chunks.lean ====
/-
  The parts of a tile's task that repeat.

  Chunks of the input under the names the invariants use; what a chunk buffer holds once its copy has landed; the
  invariants of the chunk loop (two copies under way) and of the row loops; and one trip of each row loop, whose carried
  values are one more step of the scan.
-/
module

public import proofs.«01_k».proof.Proof.Setup

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S64x8192x128 EltTy.f32)
local notation "iV" => (Memref.whole Cert.KernelIdeal.main_v0_0_scv : Memref Cert.KernelIdeal.sig Kind.scVector Space.hbm Cert.KernelIdeal.S64x128 EltTy.i32)
local notation "vV" => (Memref.whole Cert.KernelIdeal.main_v0_1_scv : Memref Cert.KernelIdeal.sig Kind.scVector Space.hbm Cert.KernelIdeal.S64x128 EltTy.f32)
local notation "aV" => (Memref.whole Cert.KernelIdeal.cc0_scratch0 : Memref Cert.KernelIdeal.sig Kind.scVector Space.vmem Cert.KernelIdeal.S256x128 EltTy.f32)
local notation "bV" => (Memref.whole Cert.KernelIdeal.cc0_scratch1 : Memref Cert.KernelIdeal.sig Kind.scVector Space.vmem Cert.KernelIdeal.S256x128 EltTy.f32)
local notation "piV" => (Memref.whole Cert.KernelIdeal.cc0_scratch2 : Memref Cert.KernelIdeal.sig Kind.scVector Space.vmem Cert.KernelIdeal.S2x128 EltTy.i32)
local notation "pvV" => (Memref.whole Cert.KernelIdeal.cc0_scratch3 : Memref Cert.KernelIdeal.sig Kind.scVector Space.vmem Cert.KernelIdeal.S2x128 EltTy.f32)

variable (m : (ℓ : Loc nD τ sig) → Buf (Elt F) ℓ)

/-! ## Chunks of the input -/

theorem ch_inb (b : Fin 64) (g : Fin 18) : ∀ a, (![b.val, 3584 + 256 * g.val, 0] : Fin 3 → Nat) a + S1x256x128.size a ≤ S64x8192x128.size a := by
  have := b.isLt; have := g.isLt; intro a; fin_cases a
  · show b.val + 1 ≤ 64; omega
  · show 3584 + 256 * g.val + 256 ≤ 8192; omega
  · show 0 + 128 ≤ 128; omega

/-- Chunk `g` of batch `b`: rows `3584 + 256 g` to `3839 + 256 g`, all columns. -/
def chM (b : Fin 64) (g : Fin 18) : Memref sig .scVector .hbm S256x128 .f32 :=
  ((xV).slice (Rect.unit (s := S64x8192x128) ![b.val, 3584 + 256 * g.val, 0] S1x256x128.size (ch_inb b g)) (fun _ => rfl)).squeeze S256x128 squeezes_S1x256x128_S256x128

/-- The tile's two batches. -/
def bL (L : grid0.Coords) (r : Fin 2) : Fin 64 :=
  ⟨4 * (L 1).val + 2 * (L 0).val + r.val, by
    have h0 : (L 0).val < 2 := (L 0).isLt
    have h1 : (L 1).val < 16 := (L 1).isLt
    omega⟩

theorem ch_canon (L : grid0.Coords) (r : Fin 2) (g : ℕ) (hg : g < 18) (off : Fin 3 → ℕ) (h : ∀ a, off a + S1x256x128.size a ≤ S64x8192x128.size a)
    (ho : off = ![4 * (L 1).val + 2 * (L 0).val + r.val, 3584 + 256 * g, 0]) :
    ((xV).slice (Rect.unit (s := S64x8192x128) off S1x256x128.size h) (fun _ => rfl)).squeeze S256x128 squeezes_S1x256x128_S256x128
      = chM (bL L r) (Ring.sl 18 g) := by
  refine congrArg (fun M : Memref sig .scVector .hbm S1x256x128 .f32 => M.squeeze S256x128 squeezes_S1x256x128_S256x128)
    (Memref.slice_unit_congr _ (ho.trans ?_) _ _ (fun _ => rfl) (fun _ => rfl))
  have : (Ring.sl 18 g).val = g := Nat.mod_eq_of_lt hg
  rw [this]; rfl

section Canon

@[sl_canon] theorem canon1 (L : grid0.Coords) :
    ((xV).slice (Rect.unit (s := S64x8192x128) (k0_off1 L 0#32) S1x256x128.size (k0_off1_inb L 0)) (fun _ => rfl)).squeeze S256x128 squeezes_S1x256x128_S256x128
      = chM (bL L 0) (Ring.sl 18 (2 * 0)) :=
  ch_canon L 0 (2 * 0) (by decide) _ _ ((k0_off1_eq L 0).trans rfl)
@[sl_canon] theorem canon2 (L : grid0.Coords) :
    ((xV).slice (Rect.unit (s := S64x8192x128) (k0_off2 L 0#32) S1x256x128.size (k0_off2_inb L 0)) (fun _ => rfl)).squeeze S256x128 squeezes_S1x256x128_S256x128
      = chM (bL L 0) (Ring.sl 18 (2 * 0 + 1)) :=
  ch_canon L 0 (2 * 0 + 1) (by decide) _ _ ((k0_off2_eq L 0).trans rfl)
@[sl_canon] theorem canon1' (L : grid0.Coords) :
    ((xV).slice (Rect.unit (s := S64x8192x128) (k0_off1 L 1#32) S1x256x128.size (k0_off1_inb L 1)) (fun _ => rfl)).squeeze S256x128 squeezes_S1x256x128_S256x128
      = chM (bL L 1) (Ring.sl 18 (2 * 0)) :=
  ch_canon L 1 (2 * 0) (by decide) _ _ ((k0_off1_eq L 1).trans rfl)
@[sl_canon] theorem canon2' (L : grid0.Coords) :
    ((xV).slice (Rect.unit (s := S64x8192x128) (k0_off2 L 1#32) S1x256x128.size (k0_off2_inb L 1)) (fun _ => rfl)).squeeze S256x128 squeezes_S1x256x128_S256x128
      = chM (bL L 1) (Ring.sl 18 (2 * 0 + 1)) :=
  ch_canon L 1 (2 * 0 + 1) (by decide) _ _ ((k0_off2_eq L 1).trans rfl)

theorem lt9_of_cond1 : ∀ k : Fin k0_t1_loop.trips, k0_cond1 k = 1#1 → k.val + 1 < 9 := by decide +kernel
theorem lt9_of_cond2 : ∀ k : Fin k0_t1_loop.trips, k0_cond2 k = 1#1 → k.val + 1 < 9 := by decide +kernel
theorem lt9_of_cond3 : ∀ k : Fin k0_t4_loop.trips, k0_cond3 k = 1#1 → k.val + 1 < 9 := by decide +kernel
theorem lt9_of_cond4 : ∀ k : Fin k0_t4_loop.trips, k0_cond4 k = 1#1 → k.val + 1 < 9 := by decide +kernel
theorem ge9_of_cond1 : ∀ k : Fin k0_t1_loop.trips, ¬ k0_cond1 k = 1#1 → ¬ k.val + 1 < 9 := by decide +kernel
theorem ge9_of_cond3 : ∀ k : Fin k0_t4_loop.trips, ¬ k0_cond3 k = 1#1 → ¬ k.val + 1 < 9 := by decide +kernel
theorem cond2_of_cond1 : ∀ k : Fin k0_t1_loop.trips, (k0_cond2 k = 1#1) = (k0_cond1 k = 1#1) := by decide +kernel
theorem cond4_of_cond3 : ∀ k : Fin k0_t4_loop.trips, (k0_cond4 k = 1#1) = (k0_cond3 k = 1#1) := by decide +kernel

theorem off_chunk (A u v w : ℕ) (h : u = v) : (![A, u, w] : Fin 3 → ℕ) = ![A, v, w] := by rw [h]

@[sl_canon] theorem canon20 (L : grid0.Coords) (k : Fin k0_t1_loop.trips) (hc : k0_cond1 k = 1#1) :
    ((xV).slice (Rect.unit (s := S64x8192x128) (k0_off20 L k) S1x256x128.size (k0_off20_inb L k hc)) (fun _ => rfl)).squeeze S256x128 squeezes_S1x256x128_S256x128
      = chM (bL L 0) (Ring.sl 18 (2 * (k.val + 1))) :=
  ch_canon L 0 _ (by have := lt9_of_cond1 k hc; omega) _ _ ((k0_off20_eq L k).trans (off_chunk _ _ _ _ (by omega)))
@[sl_canon] theorem canon37 (L : grid0.Coords) (k : Fin k0_t1_loop.trips) (hc : k0_cond2 k = 1#1) :
    ((xV).slice (Rect.unit (s := S64x8192x128) (k0_off37 L k) S1x256x128.size (k0_off37_inb L k hc)) (fun _ => rfl)).squeeze S256x128 squeezes_S1x256x128_S256x128
      = chM (bL L 0) (Ring.sl 18 (2 * (k.val + 1) + 1)) :=
  ch_canon L 0 _ (by have := lt9_of_cond2 k hc; omega) _ _ ((k0_off37_eq L k).trans (off_chunk _ _ _ _ (by omega)))
@[sl_canon] theorem canon55 (L : grid0.Coords) (k : Fin k0_t4_loop.trips) (hc : k0_cond3 k = 1#1) :
    ((xV).slice (Rect.unit (s := S64x8192x128) (k0_off55 L k) S1x256x128.size (k0_off55_inb L k hc)) (fun _ => rfl)).squeeze S256x128 squeezes_S1x256x128_S256x128
      = chM (bL L 1) (Ring.sl 18 (2 * (k.val + 1))) :=
  ch_canon L 1 _ (by have := lt9_of_cond3 k hc; omega) _ _ ((k0_off55_eq L k).trans (off_chunk _ _ _ _ (by omega)))
@[sl_canon] theorem canon72 (L : grid0.Coords) (k : Fin k0_t4_loop.trips) (hc : k0_cond4 k = 1#1) :
    ((xV).slice (Rect.unit (s := S64x8192x128) (k0_off72 L k) S1x256x128.size (k0_off72_inb L k hc)) (fun _ => rfl)).squeeze S256x128 squeezes_S1x256x128_S256x128
      = chM (bL L 1) (Ring.sl 18 (2 * (k.val + 1) + 1)) :=
  ch_canon L 1 _ (by have := lt9_of_cond4 k hc; omega) _ _ ((k0_off72_eq L k).trans (off_chunk _ _ _ _ (by omega)))

end Canon

variable [FloatOps F]

/-- A chunk buffer at contents `f` holds chunk `g` of batch `b`. -/
def Holds (X : FVec F S64x8192x128 .f32) (b : Fin 64) (g : ℕ) (f : S256x128.Idx → F .f32) : Prop :=
  ∀ j : S256x128.Idx, f j = xAt X b (j 1) (3584 + 256 * g + (j 0).val)

theorem xAt_congr (X : FVec F S64x8192x128 .f32) (b : Fin 64) {c c' : Fin 128} {r r' : ℕ} (hc : c.val = c'.val) (hr : r = r') :
    xAt X b c r = xAt X b c' r' := by rw [Fin.ext hc, hr]

/-- A sixteen-lane load from a chunk buffer holding chunk `g`, at row `r` of the chunk and lane group `j`, reads row
    `3584 + 256 g + r` of the input; from the first buffer, -/
theorem readA {X : FVec F S64x8192x128 .f32} {b : Fin 64} {g : ℕ} {f : S256x128.Idx → F .f32} (hf : Holds X b g f) (j : Fin 8) (r : ℕ)
    {off : Fin 2 → ℕ} {h : ∀ a, off a + S1x16.size a ≤ S256x128.size a} (ho : off = ![r, 16 * j.val]) {R : ℕ} (hR : R = 3584 + 256 * g + r) :
    Reads X b j R (View.readAt (Elt F) (aV).view (Rect.unit (s := S256x128) off S1x16.size h).toLoadRect f) := by
  subst ho; subst hR
  intro l
  exact (hf _).trans (xAt_congr X b (by simp [Rect.unit, col]) (by simp [Rect.unit]))
/-- and from the second. -/
theorem readB {X : FVec F S64x8192x128 .f32} {b : Fin 64} {g : ℕ} {f : S256x128.Idx → F .f32} (hf : Holds X b g f) (j : Fin 8) (r : ℕ)
    {off : Fin 2 → ℕ} {h : ∀ a, off a + S1x16.size a ≤ S256x128.size a} (ho : off = ![r, 16 * j.val]) {R : ℕ} (hR : R = 3584 + 256 * g + r) :
    Reads X b j R (View.readAt (Elt F) (bV).view (Rect.unit (s := S256x128) off S1x16.size h).toLoadRect f) := by
  subst ho; subst hR
  intro l
  exact (hf _).trans (xAt_congr X b (by simp [Rect.unit, col]) (by simp [Rect.unit]))

section Run
variable (d : Dev nD) (L : grid0.Coords)

/-- Chunk `g` of batch `b` on its way into the first chunk buffer, with what is left of the read share its copy borrows from; -/
def flightA (q : PosShare TreeShare) (b : Fin 64) (g : ℕ) : sProp 𝕄 :=
  iprop(∃ fa : Buf (Elt F) ((aV).view.loc (VT d L)), ⌜Holds (X0 m d) b g fa⌝
    ∗ Transfers.Flight countersEmb (VT d L) (SemLoc.dma (csem 0)) (default : HIx 1) 1048576
        iprop(((aV).view.loc (VT d L) ↦{fullShare} fa)
          ∗ ((xV).view.loc (VT d L) ↦[(chM b (Ring.sl 18 g)).view.set]{Transfers.shareTokN q 0} m (xLoc d)))
    ∗ ((xV).view.loc (VT d L) ↦[Finset.univ \ (chM b (Ring.sl 18 g)).view.set]{Transfers.shareTokN q 0} m (xLoc d)))
/-- and into the second. -/
def flightB (q : PosShare TreeShare) (b : Fin 64) (g : ℕ) : sProp 𝕄 :=
  iprop(∃ fb : Buf (Elt F) ((bV).view.loc (VT d L)), ⌜Holds (X0 m d) b g fb⌝
    ∗ Transfers.Flight countersEmb (VT d L) (SemLoc.dma (csem 1)) (default : HIx 1) 1048576
        iprop(((bV).view.loc (VT d L) ↦{fullShare} fb)
          ∗ ((xV).view.loc (VT d L) ↦[(chM b (Ring.sl 18 g)).view.set]{Transfers.shareTokN q 1} m (xLoc d)))
    ∗ ((xV).view.loc (VT d L) ↦[Finset.univ \ (chM b (Ring.sl 18 g)).view.set]{Transfers.shareTokN q 1} m (xLoc d)))

/-- Nothing under way: both chunk buffers at whatever they hold, both cells at zero, both read tokens whole. -/
def idleA (q : PosShare TreeShare) : sProp 𝕄 :=
  iprop((∃ fa : Buf (Elt F) ((aV).view.loc (VT d L)), (aV).view.loc (VT d L) ↦{fullShare} fa)
    ∗ semVal (VT d L, SemLoc.dma (csem 0)) 0 ∗ ((xV).view.loc (VT d L) ↦{Transfers.shareTokN q 0} m (xLoc d)))
def idleB (q : PosShare TreeShare) : sProp 𝕄 :=
  iprop((∃ fb : Buf (Elt F) ((bV).view.loc (VT d L)), (bV).view.loc (VT d L) ↦{fullShare} fb)
    ∗ semVal (VT d L, SemLoc.dma (csem 1)) 0 ∗ ((xV).view.loc (VT d L) ↦{Transfers.shareTokN q 1} m (xLoc d)))

/-- Before trip `k` of a batch's chunk loop: while trips remain, chunks `2 k` and `2 k + 1` are under way; the carry is the
    scan of the `256 k` row pairs before them. -/
def chunkInv (q : PosShare TreeShare) (r : Fin 2) (O : CellTallies nD τ sig (HIx 1)) (k : Nat) (acc : Acc F) : sProp 𝕄 :=
  iprop(Transfers.MayWaits (VT d L) (default : HIx 1) O
    ∗ (if k < 9 then iprop(flightA m d L q (bL L r) (2 * k) ∗ flightB m d L q (bL L r) (2 * k + 1)) else iprop(idleA m d L q ∗ idleB m d L q))
    ∗ ⌜acc = tup (X0 m d) (bL L r) (256 * k)⌝ ∗ ∃ W', owes (VT d L) O W')

/-- Before trip `n` of a row loop over a chunk buffer at `f`: the carry is the scan of the `n₀` pairs before the chunk and
    `n` of its own. -/
def rowInvA (b : Fin 64) (n₀ : ℕ) (fa : Buf (Elt F) ((aV).view.loc (VT d L))) (n : Nat) (acc : Acc F) : sProp 𝕄 :=
  iprop(((aV).view.loc (VT d L) ↦{fullShare} fa) ∗ ⌜acc = tup (X0 m d) b (n₀ + n)⌝)
def rowInvB (b : Fin 64) (n₀ : ℕ) (fb : Buf (Elt F) ((bV).view.loc (VT d L))) (n : Nat) (acc : Acc F) : sProp 𝕄 :=
  iprop(((bV).view.loc (VT d L) ↦{fullShare} fb) ∗ ⌜acc = tup (X0 m d) b (n₀ + n)⌝)

/-- One trip over the first buffer in the first batch; -/
theorem trip2 (k : Fin k0_t1_loop.trips) (f : Buf (Elt F) ((aV).view.loc (VT d L))) (hf : Holds (X0 m d) (bL L 0) (2 * k.val) f)
    (v12 v13 v14 v15 v16 v17 v18 v19 : FVec F S16 .f32) (v20 v21 v22 v23 v24 v25 v26 v27 : IVec S16 32) (c0 : BitVec 32) (t : Fin k0_t2_loop.trips) (acc : Acc F) :
    rowInvA m d L (bL L 0) (256 * k.val) f t.val acc
      ⊢ wp frame (wpE (defs₀ (F := F)) 𝒱₀ (VT d L) none) Set.univ
          (k0_t2_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1
            v12 v13 v14 v15 v16 v17 v18 v19 v20 v21 v22 v23 v24 v25 v26 v27 c0 (Scalar.addi (Scalar.muli (Scf.iv 0#32 1#32 k) 2#32) 0#32) t acc)
          fun acc' => rowInvA m d L (bL L 0) (256 * k.val) f (t.val + 1) acc' := by
  unfold rowInvA
  iintro ⟨Ha, %hacc⟩
  obtain rfl := hacc
  sl_unfold [k0_t2_body]
  sl_exec
  sl_step
  isplitl [Ha]; · iexact Ha
  ipureintro
  exact tup_step (X0 m d) (bL L 0) (256 * k.val + t.val) _ (base_even k t)
    ⟨_, _, readA hf 0 (2 * t.val) (k0_off4_eq t) (by omega), readA hf 0 (2 * t.val + 1) (k0_off5_eq t) (by omega), rfl, rfl⟩
    ⟨_, _, readA hf 1 (2 * t.val) (k0_off6_eq t) (by omega), readA hf 1 (2 * t.val + 1) (k0_off7_eq t) (by omega), rfl, rfl⟩
    ⟨_, _, readA hf 2 (2 * t.val) (k0_off8_eq t) (by omega), readA hf 2 (2 * t.val + 1) (k0_off9_eq t) (by omega), rfl, rfl⟩
    ⟨_, _, readA hf 3 (2 * t.val) (k0_off10_eq t) (by omega), readA hf 3 (2 * t.val + 1) (k0_off11_eq t) (by omega), rfl, rfl⟩
    ⟨_, _, readA hf 4 (2 * t.val) (k0_off12_eq t) (by omega), readA hf 4 (2 * t.val + 1) (k0_off13_eq t) (by omega), rfl, rfl⟩
    ⟨_, _, readA hf 5 (2 * t.val) (k0_off14_eq t) (by omega), readA hf 5 (2 * t.val + 1) (k0_off15_eq t) (by omega), rfl, rfl⟩
    ⟨_, _, readA hf 6 (2 * t.val) (k0_off16_eq t) (by omega), readA hf 6 (2 * t.val + 1) (k0_off17_eq t) (by omega), rfl, rfl⟩
    ⟨_, _, readA hf 7 (2 * t.val) (k0_off18_eq t) (by omega), readA hf 7 (2 * t.val + 1) (k0_off19_eq t) (by omega), rfl, rfl⟩

/-- over the second; -/
theorem trip3 (k : Fin k0_t1_loop.trips) (f : Buf (Elt F) ((bV).view.loc (VT d L))) (hf : Holds (X0 m d) (bL L 0) (2 * k.val + 1) f)
    (v12 v13 v14 v15 v16 v17 v18 v19 : FVec F S16 .f32) (v20 v21 v22 v23 v24 v25 v26 v27 : IVec S16 32) (c0 : BitVec 32) (t : Fin k0_t3_loop.trips) (acc : Acc F) :
    rowInvB m d L (bL L 0) (256 * k.val + 128) f t.val acc
      ⊢ wp frame (wpE (defs₀ (F := F)) 𝒱₀ (VT d L) none) Set.univ
          (k0_t3_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1
            v12 v13 v14 v15 v16 v17 v18 v19 v20 v21 v22 v23 v24 v25 v26 v27 c0 (Scalar.addi (Scalar.muli (Scf.iv 0#32 1#32 k) 2#32) 1#32) t acc)
          fun acc' => rowInvB m d L (bL L 0) (256 * k.val + 128) f (t.val + 1) acc' := by
  unfold rowInvB
  iintro ⟨Ha, %hacc⟩
  obtain rfl := hacc
  sl_unfold [k0_t3_body]
  sl_exec
  sl_step
  isplitl [Ha]; · iexact Ha
  ipureintro
  exact tup_step (X0 m d) (bL L 0) (256 * k.val + 128 + t.val) _ (base_odd k t)
    ⟨_, _, readB hf 0 (2 * t.val) (k0_off21_eq t) (by omega), readB hf 0 (2 * t.val + 1) (k0_off22_eq t) (by omega), rfl, rfl⟩
    ⟨_, _, readB hf 1 (2 * t.val) (k0_off23_eq t) (by omega), readB hf 1 (2 * t.val + 1) (k0_off24_eq t) (by omega), rfl, rfl⟩
    ⟨_, _, readB hf 2 (2 * t.val) (k0_off25_eq t) (by omega), readB hf 2 (2 * t.val + 1) (k0_off26_eq t) (by omega), rfl, rfl⟩
    ⟨_, _, readB hf 3 (2 * t.val) (k0_off27_eq t) (by omega), readB hf 3 (2 * t.val + 1) (k0_off28_eq t) (by omega), rfl, rfl⟩
    ⟨_, _, readB hf 4 (2 * t.val) (k0_off29_eq t) (by omega), readB hf 4 (2 * t.val + 1) (k0_off30_eq t) (by omega), rfl, rfl⟩
    ⟨_, _, readB hf 5 (2 * t.val) (k0_off31_eq t) (by omega), readB hf 5 (2 * t.val + 1) (k0_off32_eq t) (by omega), rfl, rfl⟩
    ⟨_, _, readB hf 6 (2 * t.val) (k0_off33_eq t) (by omega), readB hf 6 (2 * t.val + 1) (k0_off34_eq t) (by omega), rfl, rfl⟩
    ⟨_, _, readB hf 7 (2 * t.val) (k0_off35_eq t) (by omega), readB hf 7 (2 * t.val + 1) (k0_off36_eq t) (by omega), rfl, rfl⟩

/-- over the first buffer in the second batch; -/
theorem trip5 (k : Fin k0_t4_loop.trips) (f : Buf (Elt F) ((aV).view.loc (VT d L))) (hf : Holds (X0 m d) (bL L 1) (2 * k.val) f)
    (v94 c1 : BitVec 32) (t : Fin k0_t5_loop.trips) (acc : Acc F) :
    rowInvA m d L (bL L 1) (256 * k.val) f t.val acc
      ⊢ wp frame (wpE (defs₀ (F := F)) 𝒱₀ (VT d L) none) Set.univ
          (k0_t5_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1
            v94 c1 (Scalar.addi (Scalar.muli (Scf.iv 0#32 1#32 k) 2#32) 0#32) t acc)
          fun acc' => rowInvA m d L (bL L 1) (256 * k.val) f (t.val + 1) acc' := by
  unfold rowInvA
  iintro ⟨Ha, %hacc⟩
  obtain rfl := hacc
  sl_unfold [k0_t5_body]
  sl_exec
  sl_step
  isplitl [Ha]; · iexact Ha
  ipureintro
  exact tup_step (X0 m d) (bL L 1) (256 * k.val + t.val) _ (base_even k t)
    ⟨_, _, readA hf 0 (2 * t.val) (k0_off39_eq t) (by omega), readA hf 0 (2 * t.val + 1) (k0_off40_eq t) (by omega), rfl, rfl⟩
    ⟨_, _, readA hf 1 (2 * t.val) (k0_off41_eq t) (by omega), readA hf 1 (2 * t.val + 1) (k0_off42_eq t) (by omega), rfl, rfl⟩
    ⟨_, _, readA hf 2 (2 * t.val) (k0_off43_eq t) (by omega), readA hf 2 (2 * t.val + 1) (k0_off44_eq t) (by omega), rfl, rfl⟩
    ⟨_, _, readA hf 3 (2 * t.val) (k0_off45_eq t) (by omega), readA hf 3 (2 * t.val + 1) (k0_off46_eq t) (by omega), rfl, rfl⟩
    ⟨_, _, readA hf 4 (2 * t.val) (k0_off47_eq t) (by omega), readA hf 4 (2 * t.val + 1) (k0_off48_eq t) (by omega), rfl, rfl⟩
    ⟨_, _, readA hf 5 (2 * t.val) (k0_off49_eq t) (by omega), readA hf 5 (2 * t.val + 1) (k0_off50_eq t) (by omega), rfl, rfl⟩
    ⟨_, _, readA hf 6 (2 * t.val) (k0_off51_eq t) (by omega), readA hf 6 (2 * t.val + 1) (k0_off52_eq t) (by omega), rfl, rfl⟩
    ⟨_, _, readA hf 7 (2 * t.val) (k0_off53_eq t) (by omega), readA hf 7 (2 * t.val + 1) (k0_off54_eq t) (by omega), rfl, rfl⟩

/-- and over the second. -/
theorem trip6 (k : Fin k0_t4_loop.trips) (f : Buf (Elt F) ((bV).view.loc (VT d L))) (hf : Holds (X0 m d) (bL L 1) (2 * k.val + 1) f)
    (v94 c1 : BitVec 32) (t : Fin k0_t6_loop.trips) (acc : Acc F) :
    rowInvB m d L (bL L 1) (256 * k.val + 128) f t.val acc
      ⊢ wp frame (wpE (defs₀ (F := F)) 𝒱₀ (VT d L) none) Set.univ
          (k0_t6_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1
            v94 c1 (Scalar.addi (Scalar.muli (Scf.iv 0#32 1#32 k) 2#32) 1#32) t acc)
          fun acc' => rowInvB m d L (bL L 1) (256 * k.val + 128) f (t.val + 1) acc' := by
  unfold rowInvB
  iintro ⟨Ha, %hacc⟩
  obtain rfl := hacc
  sl_unfold [k0_t6_body]
  sl_exec
  sl_step
  isplitl [Ha]; · iexact Ha
  ipureintro
  exact tup_step (X0 m d) (bL L 1) (256 * k.val + 128 + t.val) _ (base_odd k t)
    ⟨_, _, readB hf 0 (2 * t.val) (k0_off56_eq t) (by omega), readB hf 0 (2 * t.val + 1) (k0_off57_eq t) (by omega), rfl, rfl⟩
    ⟨_, _, readB hf 1 (2 * t.val) (k0_off58_eq t) (by omega), readB hf 1 (2 * t.val + 1) (k0_off59_eq t) (by omega), rfl, rfl⟩
    ⟨_, _, readB hf 2 (2 * t.val) (k0_off60_eq t) (by omega), readB hf 2 (2 * t.val + 1) (k0_off61_eq t) (by omega), rfl, rfl⟩
    ⟨_, _, readB hf 3 (2 * t.val) (k0_off62_eq t) (by omega), readB hf 3 (2 * t.val + 1) (k0_off63_eq t) (by omega), rfl, rfl⟩
    ⟨_, _, readB hf 4 (2 * t.val) (k0_off64_eq t) (by omega), readB hf 4 (2 * t.val + 1) (k0_off65_eq t) (by omega), rfl, rfl⟩
    ⟨_, _, readB hf 5 (2 * t.val) (k0_off66_eq t) (by omega), readB hf 5 (2 * t.val + 1) (k0_off67_eq t) (by omega), rfl, rfl⟩
    ⟨_, _, readB hf 6 (2 * t.val) (k0_off68_eq t) (by omega), readB hf 6 (2 * t.val + 1) (k0_off69_eq t) (by omega), rfl, rfl⟩
    ⟨_, _, readB hf 7 (2 * t.val) (k0_off70_eq t) (by omega), readB hf 7 (2 * t.val + 1) (k0_off71_eq t) (by omega), rfl, rfl⟩

end Run

end Cert.Proof
-- ==== Proof.Tile.lean ====
/-
  One tile's task, run once at a symbolic tile.
-/
module

public import proofs.«01_k».proof.Proof.Chunks

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S64x8192x128 EltTy.f32)
local notation "iV" => (Memref.whole Cert.KernelIdeal.main_v0_0_scv : Memref Cert.KernelIdeal.sig Kind.scVector Space.hbm Cert.KernelIdeal.S64x128 EltTy.i32)
local notation "vV" => (Memref.whole Cert.KernelIdeal.main_v0_1_scv : Memref Cert.KernelIdeal.sig Kind.scVector Space.hbm Cert.KernelIdeal.S64x128 EltTy.f32)
local notation "aV" => (Memref.whole Cert.KernelIdeal.cc0_scratch0 : Memref Cert.KernelIdeal.sig Kind.scVector Space.vmem Cert.KernelIdeal.S256x128 EltTy.f32)
local notation "bV" => (Memref.whole Cert.KernelIdeal.cc0_scratch1 : Memref Cert.KernelIdeal.sig Kind.scVector Space.vmem Cert.KernelIdeal.S256x128 EltTy.f32)
local notation "piV" => (Memref.whole Cert.KernelIdeal.cc0_scratch2 : Memref Cert.KernelIdeal.sig Kind.scVector Space.vmem Cert.KernelIdeal.S2x128 EltTy.i32)
local notation "pvV" => (Memref.whole Cert.KernelIdeal.cc0_scratch3 : Memref Cert.KernelIdeal.sig Kind.scVector Space.vmem Cert.KernelIdeal.S2x128 EltTy.f32)

variable (m : (ℓ : Loc nD τ sig) → Buf (Elt F) ℓ)

section Run
variable [FloatOps F] (m : (ℓ : Loc nD τ sig) → Buf (Elt F) ℓ)
variable (d : Dev nD) (L : grid0.Coords)

/-- The chunk's element `j` is the input at the chunk's row `j 0` and column `j 1`. -/
theorem chunk_at (X : FVec F S64x8192x128 .f32) (b : Fin 64) (g : ℕ) (hg : g < 18) (j : S256x128.Idx) :
    View.read (Elt F) (chM b (Ring.sl 18 g)).view X j = xAt X b (j 1) (3584 + 256 * g + (j 0).val) := by
  have hs : (Ring.sl 18 g).val = g := Nat.mod_eq_of_lt hg
  refine (congrFun (Memref.read_squeeze_slice (Val := Elt F) (xV) (Rect.unit (s := S64x8192x128) ![b.val, 3584 + 256 * (Ring.sl 18 g).val, 0] S1x256x128.size (ch_inb b (Ring.sl 18 g)))
    (fun _ => rfl) squeezes_S1x256x128_S256x128 (show S1x256x128.ShapeCasts S256x128 by decide) X) j).trans ?_
  refine (shapeCast_dropUnit_apply ![256, 128] _ _ j).trans ?_
  refine xAt_eq X b (j 1) _ _ ?_ ?_ ?_
  · show b.val + 0 * 1 = b.val; omega
  · show 3584 + 256 * (Ring.sl 18 g).val + 1 * (j 0).val = 3584 + 256 * g + (j 0).val; rw [hs, Nat.one_mul]
  · show 0 + 1 * (j 1).val = (j 1).val; omega

/-- The copy of chunk `g` of batch `b` leaves the chunk in the buffer: in the first, -/
theorem holdsA (X : FVec F S64x8192x128 .f32) (b : Fin 64) (g : ℕ) (hg : g < 18) (f : S256x128.Idx → F .f32) :
    Holds X b g (View.write (Elt F) (aV).view f (fun j => View.read (Elt F) (chM b (Ring.sl 18 g)).view X j) Finset.univ) := by
  intro j
  rw [View.write_whole_univ]
  exact chunk_at X b g hg j
/-- and in the second. -/
theorem holdsB (X : FVec F S64x8192x128 .f32) (b : Fin 64) (g : ℕ) (hg : g < 18) (f : S256x128.Idx → F .f32) :
    Holds X b g (View.write (Elt F) (bV).view f (fun j => View.read (Elt F) (chM b (Ring.sl 18 g)).view X j) Finset.univ) := by
  intro j
  rw [View.write_whole_univ]
  exact chunk_at X b g hg j

/-- One trip of the first batch's chunk loop: the two chunks under way land and are scanned, and while two more remain
    they start into the freed buffers. -/
theorem ctrip1 (O : CellTallies nD τ sig (HIx 1)) (q : PosShare TreeShare) (v12 v13 v14 v15 v16 v17 v18 v19 : FVec F S16 .f32) (v20 v21 v22 v23 v24 v25 v26 v27 : IVec S16 32) (k : Fin k0_t1_loop.trips) (acc : Acc F) :
    chunkInv m d L q 0 O k.val acc
      ⊢ wp frame (wpE (defs₀ (F := F)) 𝒱₀ (VT d L) none) Set.univ
          (k0_t1_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1
            v12 v13 v14 v15 v16 v17 v18 v19 v20 v21 v22 v23 v24 v25 v26 v27 0#32 k acc)
          fun acc' => chunkInv m d L q 0 O (k.val + 1) acc' := by
  unfold chunkInv
  rw [if_pos (show k.val < 9 from k.isLt)]
  unfold flightA flightB
  iintro ⟨#Hmw, ⟨⟨%fa, %hfa, Hc0, Hx0⟩, ⟨%fb, %hfb, Hc1, Hx1⟩⟩, %hacc, %W', HO⟩
  obtain rfl := hacc
  sl_unfold [k0_t1_body]
  sl_exec
  sl_for (rowInvA m d L (bL L 0) (256 * k.val) fa) $$ [Hc0_dst]
  case region => intro t acc; exact trip2 m d L k fa hfa _ _ _ _ _ _ _ _ _ _ _ _ _ _ _ _ _ t acc
  · unfold rowInvA
    isplitl [Hc0_dst]; · iexact Hc0_dst
    ipureintro; rfl
  unfold rowInvA
  iintro %acc ⟨Ha, %hacc⟩
  obtain rfl := hacc
  rcases Classical.em (k0_cond1 k = 1#1) with hc | hc
  · have hc' : k0_cond2 k = 1#1 := (cond2_of_cond1 k).symm ▸ hc
    have hk : k.val + 1 < 9 := lt9_of_cond1 k hc
    sl_exec
    sl_for (rowInvB m d L (bL L 0) (256 * k.val + 128) fb) $$ [Hc1_dst]
    case region => intro t acc; exact trip3 m d L k fb hfb _ _ _ _ _ _ _ _ _ _ _ _ _ _ _ _ _ t acc
    · unfold rowInvB
      isplitl [Hc1_dst]; · iexact Hc1_dst
      ipureintro; rfl
    unfold rowInvB
    iintro %acc ⟨Hb, %hacc⟩
    obtain rfl := hacc
    sl_exec
    sl_step
    rw [if_pos hk]
    isplitr; · iexact Hmw
    isplitl [Hc0 Hx0 Hc1 Hx1]
    · isplitl [Hc0 Hx0]
      · iexists _
        isplitr
        · ipureintro; exact holdsA (m (xLoc d)) (bL L 0) (2 * (k.val + 1)) (by omega) fa
        isplitl [Hc0]; · iexact Hc0
        iexact Hx0
      · iexists _
        isplitr
        · ipureintro; exact holdsB (m (xLoc d)) (bL L 0) (2 * (k.val + 1) + 1) (by omega) fb
        isplitl [Hc1]; · iexact Hc1
        iexact Hx1
    isplitr; · ipureintro; rfl
    iexists _; iexact HO
  · have hc' : ¬ k0_cond2 k = 1#1 := fun h => hc ((cond2_of_cond1 k) ▸ h)
    have hk : ¬ k.val + 1 < 9 := ge9_of_cond1 k hc
    sl_exec
    sl_for (rowInvB m d L (bL L 0) (256 * k.val + 128) fb) $$ [Hc1_dst]
    case region => intro t acc; exact trip3 m d L k fb hfb _ _ _ _ _ _ _ _ _ _ _ _ _ _ _ _ _ t acc
    · unfold rowInvB
      isplitl [Hc1_dst]; · iexact Hc1_dst
      ipureintro; rfl
    unfold rowInvB
    iintro %acc ⟨Hb, %hacc⟩
    obtain rfl := hacc
    sl_exec
    sl_step
    rw [if_neg hk]
    unfold idleA idleB
    isplitr; · iexact Hmw
    isplitl [Ha Hc0 Hx0 Hb Hc1 Hx1]
    · isplitl [Ha Hc0 Hx0]
      · isplitl [Ha]; · iexists _; iexact Ha
        isplitl [Hc0]; · iexact Hc0
        iexact Hx0
      · isplitl [Hb]; · iexists _; iexact Hb
        isplitl [Hc1]; · iexact Hc1
        iexact Hx1
    isplitr; · ipureintro; rfl
    iexists _; iexact HO

/-- One trip of the second batch's chunk loop: the two chunks under way land and are scanned, and while two more remain
    they start into the freed buffers. -/
theorem ctrip4 (O : CellTallies nD τ sig (HIx 1)) (q : PosShare TreeShare) (v94 c1 : BitVec 32) (k : Fin k0_t4_loop.trips) (acc : Acc F) :
    chunkInv m d L q 1 O k.val acc
      ⊢ wp frame (wpE (defs₀ (F := F)) 𝒱₀ (VT d L) none) Set.univ
          (k0_t4_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1
            v94 c1 k acc)
          fun acc' => chunkInv m d L q 1 O (k.val + 1) acc' := by
  unfold chunkInv
  rw [if_pos (show k.val < 9 from k.isLt)]
  unfold flightA flightB
  iintro ⟨#Hmw, ⟨⟨%fa, %hfa, Hc0, Hx0⟩, ⟨%fb, %hfb, Hc1, Hx1⟩⟩, %hacc, %W', HO⟩
  obtain rfl := hacc
  sl_unfold [k0_t4_body]
  sl_exec
  sl_for (rowInvA m d L (bL L 1) (256 * k.val) fa) $$ [Hc0_dst]
  case region => intro t acc; exact trip5 m d L k fa hfa _ _ t acc
  · unfold rowInvA
    isplitl [Hc0_dst]; · iexact Hc0_dst
    ipureintro; rfl
  unfold rowInvA
  iintro %acc ⟨Ha, %hacc⟩
  obtain rfl := hacc
  rcases Classical.em (k0_cond3 k = 1#1) with hc | hc
  · have hc' : k0_cond4 k = 1#1 := (cond4_of_cond3 k).symm ▸ hc
    have hk : k.val + 1 < 9 := lt9_of_cond3 k hc
    sl_exec
    sl_for (rowInvB m d L (bL L 1) (256 * k.val + 128) fb) $$ [Hc1_dst]
    case region => intro t acc; exact trip6 m d L k fb hfb _ _ t acc
    · unfold rowInvB
      isplitl [Hc1_dst]; · iexact Hc1_dst
      ipureintro; rfl
    unfold rowInvB
    iintro %acc ⟨Hb, %hacc⟩
    obtain rfl := hacc
    sl_exec
    sl_step
    rw [if_pos hk]
    isplitr; · iexact Hmw
    isplitl [Hc0 Hx0 Hc1 Hx1]
    · isplitl [Hc0 Hx0]
      · iexists _
        isplitr
        · ipureintro; exact holdsA (m (xLoc d)) (bL L 1) (2 * (k.val + 1)) (by omega) fa
        isplitl [Hc0]; · iexact Hc0
        iexact Hx0
      · iexists _
        isplitr
        · ipureintro; exact holdsB (m (xLoc d)) (bL L 1) (2 * (k.val + 1) + 1) (by omega) fb
        isplitl [Hc1]; · iexact Hc1
        iexact Hx1
    isplitr; · ipureintro; rfl
    iexists _; iexact HO
  · have hc' : ¬ k0_cond4 k = 1#1 := fun h => hc ((cond4_of_cond3 k) ▸ h)
    have hk : ¬ k.val + 1 < 9 := ge9_of_cond3 k hc
    sl_exec
    sl_for (rowInvB m d L (bL L 1) (256 * k.val + 128) fb) $$ [Hc1_dst]
    case region => intro t acc; exact trip6 m d L k fb hfb _ _ t acc
    · unfold rowInvB
      isplitl [Hc1_dst]; · iexact Hc1_dst
      ipureintro; rfl
    unfold rowInvB
    iintro %acc ⟨Hb, %hacc⟩
    obtain rfl := hacc
    sl_exec
    sl_step
    rw [if_neg hk]
    unfold idleA idleB
    isplitr; · iexact Hmw
    isplitl [Ha Hc0 Hx0 Hb Hc1 Hx1]
    · isplitl [Ha Hc0 Hx0]
      · isplitl [Ha]; · iexists _; iexact Ha
        isplitl [Hc0]; · iexact Hc0
        iexact Hx0
      · isplitl [Hb]; · iexists _; iexact Hb
        isplitl [Hc1]; · iexact Hc1
        iexact Hx1
    isplitr; · ipureintro; rfl
    iexists _; iexact HO

end Run

end Cert.Proof
-- ==== Proof.TileRun.lean ====
/-
  One tile's task, run once at a symbolic tile.
-/
module

public import proofs.«01_k».proof.Proof.Tile

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S64x8192x128 EltTy.f32)
local notation "iV" => (Memref.whole Cert.KernelIdeal.main_v0_0_scv : Memref Cert.KernelIdeal.sig Kind.scVector Space.hbm Cert.KernelIdeal.S64x128 EltTy.i32)
local notation "vV" => (Memref.whole Cert.KernelIdeal.main_v0_1_scv : Memref Cert.KernelIdeal.sig Kind.scVector Space.hbm Cert.KernelIdeal.S64x128 EltTy.f32)
local notation "aV" => (Memref.whole Cert.KernelIdeal.cc0_scratch0 : Memref Cert.KernelIdeal.sig Kind.scVector Space.vmem Cert.KernelIdeal.S256x128 EltTy.f32)
local notation "bV" => (Memref.whole Cert.KernelIdeal.cc0_scratch1 : Memref Cert.KernelIdeal.sig Kind.scVector Space.vmem Cert.KernelIdeal.S256x128 EltTy.f32)
local notation "piV" => (Memref.whole Cert.KernelIdeal.cc0_scratch2 : Memref Cert.KernelIdeal.sig Kind.scVector Space.vmem Cert.KernelIdeal.S2x128 EltTy.i32)
local notation "pvV" => (Memref.whole Cert.KernelIdeal.cc0_scratch3 : Memref Cert.KernelIdeal.sig Kind.scVector Space.vmem Cert.KernelIdeal.S2x128 EltTy.f32)

variable (m : (ℓ : Loc nD τ sig) → Buf (Elt F) ℓ)

/-! ## The lane groups a tile stores -/

theorem lane_inb (r : Fin 2) (j : Fin 8) : ∀ a, (![r.val, 16 * j.val] : Fin 2 → Nat) a + S1x16.size a ≤ S2x128.size a := by
  have := r.isLt; have := j.isLt; intro a; fin_cases a
  · show r.val + 1 ≤ 2; omega
  · show 16 * j.val + 16 ≤ 128; omega

/-- The store of lane group `j` of result row `r`: the vector `w`, as a piece of one row and sixteen columns. -/
def lane {e : EltTy} (w : Fin 2 → Fin 8 → S16.Idx → Elt F e) (p : Fin 2 × Fin 8) : View.Piece (Elt F) S2x128 e :=
  ⟨Rect.unit (s := S2x128) ![p.1.val, 16 * p.2.val] S1x16.size (lane_inb p.1 p.2), shapeCast S1x16 (w p.1 p.2) shapeCasts_S16_S1x16⟩

/-- The sixteen stores of both rows, newest first. -/
def lanes {e : EltTy} (w : Fin 2 → Fin 8 → S16.Idx → Elt F e) : List (View.Piece (Elt F) S2x128 e) :=
  [(1, 7), (1, 6), (1, 5), (1, 4), (1, 3), (1, 2), (1, 1), (1, 0), (0, 7), (0, 6), (0, 5), (0, 4), (0, 3), (0, 2), (0, 1), (0, 0)].map (lane w)

/-- After them the buffer holds, at row `y 0` and column `y 1`, that column's lane. -/
theorem read_lanes {κ : Kind} {sp : Space} {e : EltTy} (v : View sig κ sp S2x128 e) (f : v.ty.Contents (Elt F))
    (w : Fin 2 → Fin 8 → S16.Idx → Elt F e) (G : S2x128.Idx → Elt F e) (hG : ∀ r j l, w r j l = G (ix2 r (col j l))) (y : S2x128.Idx) :
    v.read (Elt F) (v.writes (Elt F) f (lanes w)) y = G y := by
  refine View.read_writes_apply_of_pieces v f G (lanes w) ?_ y ?_
  · intro p hp x
    obtain ⟨⟨r, j⟩, -, rfl⟩ := List.mem_map.mp hp
    refine (row_cast _ x).trans ((hG r j _).trans (congrArg G (funext fun a => Fin.ext ?_)))
    match a with
    | 0 => show r.val = r.val + 1 * (x 0).val; have : (x 0).val < 1 := (x 0).isLt; omega
    | 1 => show 16 * j.val + (x 1).val = 16 * j.val + 1 * (x 1).val; omega
  · have h1 : (y 1).val < 128 := (y 1).isLt
    refine ⟨lane w (y 0, ⟨(y 1).val / 16, by omega⟩), List.mem_map.mpr ⟨_, ?_, rfl⟩, ?_⟩
    · exact (show ∀ p : Fin 2 × Fin 8, p ∈ [((1 : Fin 2), (7 : Fin 8)), (1, 6), (1, 5), (1, 4), (1, 3), (1, 2), (1, 1), (1, 0), (0, 7), (0, 6), (0, 5), (0, 4), (0, 3), (0, 2), (0, 1), (0, 0)] by decide) _
    · refine (lane w (y 0, ⟨(y 1).val / 16, by omega⟩)).1.mem_set.mpr fun a => ?_
      match a with
      | 0 => exact ⟨0, Nat.one_pos, by show (y 0).val = (y 0).val + 1 * 0; omega⟩
      | 1 => exact ⟨(y 1).val % 16, Nat.mod_lt _ (by decide), by show (y 1).val = 16 * ((y 1).val / 16) + 1 * ((y 1).val % 16); omega⟩

section Run
variable [FloatOps F] (m : (ℓ : Loc nD τ sig) → Buf (Elt F) ℓ)
variable (d : Dev nD) (L : grid0.Coords)

/-- What a tile's result buffers hold before they are copied out: the scan of all 2304 row pairs, rows and values. -/
def rowsI (X : FVec F S64x8192x128 .f32) : S2x128.Idx → BitVec 32 := fun y => (scan X (bL L (y 0)) (y 1) 2304).2
def rowsV (X : FVec F S64x8192x128 .f32) : S2x128.Idx → F .f32 := fun y => (scan X (bL L (y 0)) (y 1) 2304).1

theorem emb_orect (y : S2x128.Idx) : ((orect L).emb y 0 = bL L (y 0)) ∧ ((orect L).emb y 1 = y 1) := by
  have h : ∀ a, ((orect L).emb y a).val = (![4 * (L 1).val + 2 * (L 0).val, 0] : Fin 2 → ℕ) a + 1 * (y a).val := fun a => by
    rw [← k0_off73_eq]; rfl
  exact ⟨Fin.ext ((h 0).trans (by show _ + 1 * _ = _; rw [Nat.one_mul]; rfl)), Fin.ext ((h 1).trans (by show 0 + 1 * _ = _; omega))⟩

/-- Copied out, the rows are the tile's two rows of the call's results. -/
theorem out_rowsI (g : Buf (Elt F) (iLoc d)) (w : S2x128.Idx → BitVec 32) (hw : ∀ y, w y = rowsI L (X0 m d) y) :
    ∀ i ∈ (iBlkM L).view.set, (iBlkM L).view.writes (Elt F) g [⟨Rect.whole S2x128, w⟩] i = SCI m d i := by
  intro i hi
  obtain ⟨y, -, rfl⟩ := Finset.mem_map.mp hi
  have e := View.read_writes_cons_hit_of_coords (iBlkM L).view g (Rect.whole S2x128) w [] y y (fun a => by show _ = 0 + 1 * _; omega)
  refine Eq.trans e ((hw y).trans ?_)
  show (scan _ (bL L (y 0)) (y 1) 2304).2 = (scan _ ((orect L).emb y 0) ((orect L).emb y 1) 2304).2
  rw [(emb_orect L y).1, (emb_orect L y).2]
/-- The same for the values. -/
theorem out_rowsV (g : Buf (Elt F) (vLoc d)) (w : S2x128.Idx → F .f32) (hw : ∀ y, w y = rowsV L (X0 m d) y) :
    ∀ i ∈ (vBlkM L).view.set, (vBlkM L).view.writes (Elt F) g [⟨Rect.whole S2x128, w⟩] i = SCV m d i := by
  intro i hi
  obtain ⟨y, -, rfl⟩ := Finset.mem_map.mp hi
  have e := View.read_writes_cons_hit_of_coords (vBlkM L).view g (Rect.whole S2x128) w [] y y (fun a => by show _ = 0 + 1 * _; omega)
  refine Eq.trans e ((hw y).trans ?_)
  show (scan _ (bL L (y 0)) (y 1) 2304).1 = (scan _ ((orect L).emb y 0) ((orect L).emb y 1) 2304).1
  rw [(emb_orect L y).1, (emb_orect L y).2]

/-- The task: from read tokens for the input, its buffers, cells and its two rows of the results, to the same with those rows
    at the scan's rows and values. -/
theorem tile_run (O : CellTallies nD τ sig (HIx 1)) (W : Waits sig (HIx 1))
    (q0 : PosShare TreeShare)
    (fa : Buf (Elt F) ((aV).view.loc (VT d L))) (fb : Buf (Elt F) ((bV).view.loc (VT d L)))
    (fi : Buf (Elt F) ((piV).view.loc (VT d L))) (fv : Buf (Elt F) ((pvV).view.loc (VT d L)))
    (gi : Buf (Elt F) (iLoc d)) (gv : Buf (Elt F) (vLoc d)) :
    (iprop(Transfers.MayWaits (VT d L) (default : HIx 1) O
        ∗ ((xV).view.loc (VT d L) ↦{Transfers.shareTokN q0 0} m (xLoc d))
        ∗ ((xV).view.loc (VT d L) ↦{Transfers.shareTokN q0 1} m (xLoc d))
        ∗ ((aV).view.loc (VT d L) ↦{fullShare} fa) ∗ ((bV).view.loc (VT d L) ↦{fullShare} fb)
        ∗ ((piV).view.loc (VT d L) ↦{fullShare} fi) ∗ ((pvV).view.loc (VT d L) ↦{fullShare} fv)
        ∗ ((iBlkM L).view.loc (VT d L) ↦[(iBlkM L).view.set]{fullShare} gi)
        ∗ ((vBlkM L).view.loc (VT d L) ↦[(vBlkM L).view.set]{fullShare} gv)
        ∗ cells0 d L ∗ owes (VT d L) O W) : sProp 𝕄)
      ⊢ wp frame (wpE (defs₀ (F := F)) 𝒱₀ (VT d L) none) Set.univ
          (cc0__sc_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1)
          fun _ => iprop(((xV).view.loc (VT d L) ↦{Transfers.shareTokN q0 0} m (xLoc d))
            ∗ ((xV).view.loc (VT d L) ↦{Transfers.shareTokN q0 1} m (xLoc d))
            ∗ (∃ f, (aV).view.loc (VT d L) ↦{fullShare} f) ∗ (∃ f, (bV).view.loc (VT d L) ↦{fullShare} f)
            ∗ (∃ f, (piV).view.loc (VT d L) ↦{fullShare} f) ∗ (∃ f, (pvV).view.loc (VT d L) ↦{fullShare} f)
            ∗ ((iBlkM L).view.loc (VT d L) ↦[(iBlkM L).view.set]{fullShare} SCI m d)
            ∗ ((vBlkM L).view.loc (VT d L) ↦[(vBlkM L).view.set]{fullShare} SCV m d)
            ∗ cells0 d L ∗ ∃ W', owes (VT d L) O W') := by
  iintro ⟨#Hmw, Hx0, Hx1, Ha, Hb, Hi, Hv, Hgi, Hgv, ⟨Hc0, Hc1, Hc2, Hc3⟩, HO⟩
  sl_unfold [cc0__sc_body]
  sl_exec
  sl_for (chunkInv m d L q0 0 O) $$ [Hx0 Hx1 Hc0 Hc1 HO]
  case region => intro k acc; exact ctrip1 m d L O q0 _ _ _ _ _ _ _ _ _ _ _ _ _ _ _ _ k acc
  · unfold chunkInv
    rw [if_pos (show (0:ℕ) < 9 by decide)]
    unfold flightA flightB
    isplitr; · iexact Hmw
    isplitl [Hc0 Hx0 Hc1 Hx1]
    · isplitl [Hc0 Hx0]
      · iexists _
        isplitr
        · ipureintro; exact holdsA (m (xLoc d)) (bL L 0) (2 * 0) (by omega) fa
        isplitl [Hc0]; · iexact Hc0
        iexact Hx0
      · iexists _
        isplitr
        · ipureintro; exact holdsB (m (xLoc d)) (bL L 0) (2 * 0 + 1) (by omega) fb
        isplitl [Hc1]; · iexact Hc1
        iexact Hx1
    isplitr; · ipureintro; rfl
    iexists _; iexact HO
  unfold chunkInv
  rw [if_neg (show ¬ Scf.trips k0_t1_loop.lb k0_t1_loop.ub k0_t1_loop.st < 9 by decide)]
  unfold idleA idleB
  iintro %acc ⟨-, ⟨⟨⟨%fa, Ha⟩, Hc0, Hx0⟩, ⟨⟨%fb, Hb⟩, Hc1, Hx1⟩⟩, %hacc, %W', HO⟩
  obtain rfl := hacc
  sl_exec
  sl_for (chunkInv m d L q0 1 O) $$ [Hx0 Hx1 Hc0 Hc1 HO]
  case region => intro k acc; exact ctrip4 m d L O q0 _ _ k acc
  · unfold chunkInv
    rw [if_pos (show (0:ℕ) < 9 by decide)]
    unfold flightA flightB
    isplitr; · iexact Hmw
    isplitl [Hc0 Hx0 Hc1 Hx1]
    · isplitl [Hc0 Hx0]
      · iexists _
        isplitr
        · ipureintro; exact holdsA (m (xLoc d)) (bL L 1) (2 * 0) (by omega) fa
        isplitl [Hc0]; · iexact Hc0
        iexact Hx0
      · iexists _
        isplitr
        · ipureintro; exact holdsB (m (xLoc d)) (bL L 1) (2 * 0 + 1) (by omega) fb
        isplitl [Hc1]; · iexact Hc1
        iexact Hx1
    isplitr; · ipureintro; rfl
    iexists _; iexact HO
  unfold chunkInv
  rw [if_neg (show ¬ Scf.trips k0_t4_loop.lb k0_t4_loop.ub k0_t4_loop.st < 9 by decide)]
  unfold idleA idleB
  iintro %acc ⟨-, ⟨⟨⟨%fa, Ha⟩, Hc0, Hx0⟩, ⟨⟨%fb, Hb⟩, Hc1, Hx1⟩⟩, %hacc, %W', HO⟩
  obtain rfl := hacc
  sl_exec
  sl_step
  have hI : ∀ y, tile_run.sl.dma32_2 m d L fi y = rowsI L (X0 m d) y := fun y =>
    read_lanes (piV).view fi (fun r j => idxV (X0 m d) (bL L r) j 2304) (rowsI L (X0 m d)) (fun r j l => rfl) y
  have hV : ∀ y, tile_run.sl.dma32_3 m d L fv y = rowsV L (X0 m d) y := fun y =>
    read_lanes (pvV).view fv (fun r j => valV (X0 m d) (bL L r) j 2304) (rowsV L (X0 m d)) (fun r j l => rfl) y
  isplitl [Hx0]; · iexact Hx0
  isplitl [Hx1]; · iexact Hx1
  isplitl [Ha]; · iexists _; iexact Ha
  isplitl [Hb]; · iexists _; iexact Hb
  isplitl [Hi]; · iexists _; iexact Hi
  isplitl [Hv]; · iexists _; iexact Hv
  isplitl [Hgi]
  · iapply (Entails.of_eq (pointsTo_congr (out_rowsI m d L gi _ hI))); iexact Hgi
  isplitl [Hgv]
  · iapply (Entails.of_eq (pointsTo_congr (out_rowsV m d L gv _ hV))); iexact Hgv
  isplitl [Hc0 Hc1 Hc2 Hc3]
  · isplitl [Hc0]; · iexact Hc0
    isplitl [Hc1]; · iexact Hc1
    isplitl [Hc2]; · iexact Hc2
    iexact Hc3
  iexists _; iexact HO

end Run

end Cert.Proof
-- ==== Proof.Obl.lean ====
/-
  The task as the launch asks for it: from what a tile is handed to what it hands back.
-/
module

public import proofs.«01_k».proof.Proof.TileRun

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S64x8192x128 EltTy.f32)
local notation "iV" => (Memref.whole Cert.KernelIdeal.main_v0_0_scv : Memref Cert.KernelIdeal.sig Kind.scVector Space.hbm Cert.KernelIdeal.S64x128 EltTy.i32)
local notation "vV" => (Memref.whole Cert.KernelIdeal.main_v0_1_scv : Memref Cert.KernelIdeal.sig Kind.scVector Space.hbm Cert.KernelIdeal.S64x128 EltTy.f32)
local notation "aV" => (Memref.whole Cert.KernelIdeal.cc0_scratch0 : Memref Cert.KernelIdeal.sig Kind.scVector Space.vmem Cert.KernelIdeal.S256x128 EltTy.f32)
local notation "bV" => (Memref.whole Cert.KernelIdeal.cc0_scratch1 : Memref Cert.KernelIdeal.sig Kind.scVector Space.vmem Cert.KernelIdeal.S256x128 EltTy.f32)
local notation "piV" => (Memref.whole Cert.KernelIdeal.cc0_scratch2 : Memref Cert.KernelIdeal.sig Kind.scVector Space.vmem Cert.KernelIdeal.S2x128 EltTy.i32)
local notation "pvV" => (Memref.whole Cert.KernelIdeal.cc0_scratch3 : Memref Cert.KernelIdeal.sig Kind.scVector Space.vmem Cert.KernelIdeal.S2x128 EltTy.f32)

variable (m : (ℓ : Loc nD τ sig) → Buf (Elt F) ℓ)

section Obl
variable [FloatOps F] (m : (ℓ : Loc nD τ sig) → Buf (Elt F) ℓ)
variable (d : Dev nD) (L : grid0.Coords)

omit [FloatOps F] in
/-- A read share of the input as two read tokens, one for each chunk buffer's copies, and a remainder. -/
theorem x_tokens (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f)
      ∗ (xLoc d ↦{Transfers.shareTokN q 1} f)) := by
  have h := Transfers.pointsTo_toks_range (Ix := HIx 1) (Name := ℕ) (U := UU) (Lvl := ℕ) (ℓ := xLoc d) (S := Finset.univ) (f := f) q 2
  rwa [show Finset.range 2 = {0, 1} by decide, SparseCore.bigSep_insert' (by decide), bigSep_singleton] at h

/-- The task on tile `L` of device `d` from its payload and its scoped storage to the payload it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ goR m d (pL L)
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1)
          fun _ => iprop(tdR m d (pL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hgi, Hgv⟩, ⟨⟨%fa, Ha⟩, ⟨%fb, Hb⟩, ⟨%fi, Hi⟩, ⟨%fv, Hv⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hgi' := (Entails.of_eq (pts_iBlkM (F := F) d L _).symm) $$ Hgi
  ihave Hgv' := (Entails.of_eq (pts_vBlkM (F := F) d L _).symm) $$ Hgv
  ihave Hx' := (x_tokens d (xq (pL L)) (m (xLoc d))).1 $$ Hx
  icases Hx' with ⟨Hxr, Hx0, Hx1⟩
  iapply (wp_wand_r Idealize.ShloMosaic.frame (wpE (defs₀ (F := F)) 𝒱₀ (VT d L) none) Set.univ)
  isplitl [Hx0 Hx1 Ha Hb Hi Hv Hgi' Hgv' HC HO]
  · iapply (tile_run m d L O W (xq (pL L)) fa fb fi fv _ _)
    isplitr; · iexact Hmw
    isplitl [Hx0]; · iexact Hx0
    isplitl [Hx1]; · iexact Hx1
    isplitl [Ha]; · iexact Ha
    isplitl [Hb]; · iexact Hb
    isplitl [Hi]; · iexact Hi
    isplitl [Hv]; · iexact Hv
    isplitl [Hgi']; · iexact Hgi'
    isplitl [Hgv']; · iexact Hgv'
    isplitl [HC]; · iexact HC
    iexact HO
  iintro %_ ⟨Hx0, Hx1, Ha, Hb, Hi, Hv, Hgi', Hgv', HC, ⟨%W', HO⟩⟩
  ihave Hx := (x_tokens d (xq (pL L)) (m (xLoc d))).2 $$ [Hxr Hx0 Hx1]
  · isplitl [Hxr]; · iexact Hxr
    isplitl [Hx0]; · iexact Hx0
    iexact Hx1
  isplitl [Hx Hgi' Hgv']
  · isplitl [Hx]; · iexact Hx
    isplitl [Hgi']; · iapply (Entails.of_eq (pts_iBlkM (F := F) d L _)); iexact Hgi'
    iapply (Entails.of_eq (pts_vBlkM (F := F) d L _)); iexact Hgv'
  isplitl [Ha Hb Hi Hv Hbufs]
  · isplitl [Ha]; · iexact Ha
    isplitl [Hb]; · iexact Hb
    isplitl [Hi]; · iexact Hi
    isplitl [Hv]; · iexact Hv
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-- The tile's place in the mesh, from its SparseCore and its number there. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) xV (Memref.isWhole_whole _) iV (Memref.isWhole_whole _) vV (Memref.isWhole_whole _)
            aV (Memref.isWhole_whole _) bV (Memref.isWhole_whole _) piV (Memref.isWhole_whole _) pvV (Memref.isWhole_whole _)
            cc0_scratch4 cc0_scratch5 cc0_scoped0 cc0_scoped1) ⟨⟩ c s := rfl

/-- Every tile meets the launch's obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Obl

end Cert.Proof
-- ==== Proof.Tc1.lean ====
/-
  The TensorCore call over the first 3584 rows: what its loop carries, in plain terms, and one run of its body.
-/
module

public import proofs.«01_k».proof.Proof.Setup
public import proofs.«01_k».proof.Proof.Gen.KernelIdeal.Points
public import Idealize.ShloMosaic.Lib.VecWindow

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type} [FloatOps F]

local notation "𝕄" => MT nD τ sig (HIx 1) (Elt F) ℕ UU ℕ

/-! ## The running minimum of one sublane -/

/-- One more row of value `u` and index `ix`, taken when it is strictly below the minimum so far. -/
def tstep (u : F .f32) (ix : BitVec 32) (s : F .f32 × BitVec 32) : F .f32 × BitVec 32 :=
  (Scalar.select (FloatOps.cmpf .olt u s.1) u s.1, Scalar.select (FloatOps.cmpf .olt u s.1) ix s.2)

/-- The minimum and its row over the first `n` of the rows `s`, `s + 8`, `s + 16`, … of a column, from `+∞` at row 0. -/
def tscan (R : ℕ → F .f32) (s : ℕ) : ℕ → F .f32 × BitVec 32
  | 0 => (Scalar.ofBits .f32 0x7F800000#32, 0#32)
  | n + 1 => tstep (R (8 * n + s)) (BitVec.ofNat 32 (8 * n + s)) (tscan R s n)

/-- The carried minima over the first `n` groups of eight rows, one for each sublane and column, -/
def accV (R : ℕ → Fin 128 → F .f32) (n : ℕ) : FVec F S8x128 .f32 := fun i => (tscan (fun r => R r (i 1)) (i 0).val n).1
/-- and their rows. -/
def accI (R : ℕ → Fin 128 → F .f32) (n : ℕ) : IVec S8x128 32 := fun i => (tscan (fun r => R r (i 1)) (i 0).val n).2

variable {R : ℕ → Fin 128 → F .f32}

/-- One group of eight rows: the vector `w` holds rows `8 n` to `8 n + 7`. -/
theorem stepV {n : ℕ} {w a : FVec F S8x128 .f32} {c : IVec S8x128 1} (hw : ∀ i, w i = R (8 * n + (i 0).val) (i 1)) (ha : a = accV R n)
    (hc : c = cmpf .olt w a) : select c w a = accV R (n + 1) := by
  subst ha hc
  funext i
  show Scalar.select (FloatOps.cmpf .olt (w i) (accV R n i)) (w i) (accV R n i) = _
  rw [hw i]; rfl

/-- The rows of the same group. -/
theorem stepI {n : ℕ} {w a : FVec F S8x128 .f32} {c : IVec S8x128 1} {b : IVec S8x128 32} {z : BitVec 32}
    (hw : ∀ i, w i = R (8 * n + (i 0).val) (i 1)) (ha : a = accV R n) (hb : b = accI R n) (hc : c = cmpf .olt w a)
    (hz : z = BitVec.ofNat 32 (8 * n)) :
    select c (addi (iota .tc S8x128 32 [0] iota_S8x128_d0_w32) (broadcast S8x128 z)) b = accI R (n + 1) := by
  subst ha hb hc hz
  funext i
  show Scalar.select (FloatOps.cmpf .olt (w i) (accV R n i)) (iota .tc S8x128 32 [0] iota_S8x128_d0_w32 i + BitVec.ofNat 32 (8 * n)) (accI R n i) = _
  rw [hw i, iota_single_apply, ← BitVec.ofNat_add, Nat.add_comm (i 0).val]; rfl

/-- The group at `u` of a trip's 64 rows, as the kernel cuts it out, at sublane `p` and column `c`. -/
theorem grp_at' (v : Vec F S1x64x128 .f32) (u p : Fin 8) (c : Fin 128) (hs : Shape.Slices S8x8x128 ![u.val, 0, 0] S1x8x128) :
    shapeCast S8x128 (extractStridedSlice S1x8x128 ![u.val, 0, 0] (k1_pay14 v) hs) shapeCasts_S1x8x128_S8x128 (ix2 p c)
      = v (ix3 0 ⟨8 * u.val + p.val, by omega⟩ c) := by
  refine (shapeCast_apply _ _ _ (ix3 (0 : Fin 1) p c : S1x8x128.Idx) ?_).trans ?_
  · refine (Shape.rowMajor_val_three _).trans (Eq.trans ?_ (Shape.rowMajor_val_two _).symm); simp
  refine (extractStridedSlice_apply _ _ _ _ (ix3 u p c : S8x8x128.Idx) fun a => ?_).trans ?_
  · fin_cases a <;> simp
  unfold k1_pay14
  refine (shapeCast_apply _ _ _ (ix2 (⟨8 * u.val + p.val, by omega⟩ : Fin 64) c : S64x128.Idx) ?_).trans ?_
  · refine (Shape.rowMajor_val_two _).trans (Eq.trans ?_ (Shape.rowMajor_val_three _).symm)
    show (8 * u.val + p.val) * 128 + c.val = (u.val * 8 + p.val) * 128 + c.val; omega
  refine (shapeCast_apply _ _ _ _ ?_)
  refine (Shape.rowMajor_val_three _).trans (Eq.trans ?_ (Shape.rowMajor_val_two _).symm); simp

/-- The same at an index. -/
theorem grp_at (v : Vec F S1x64x128 .f32) (u : Fin 8) (off : Fin 3 → ℕ) (hu : off = ![u.val, 0, 0]) (hs : Shape.Slices S8x8x128 off S1x8x128) (i : S8x128.Idx) :
    shapeCast S8x128 (extractStridedSlice S1x8x128 off (k1_pay14 v) hs) shapeCasts_S1x8x128_S8x128 i
      = v (ix3 0 ⟨8 * u.val + (i 0).val, by have := u.isLt; have := idx2_lt0 i; omega⟩ (i 1)) := by
  subst hu
  have e := eq_ix2 i
  exact (congrArg _ e).trans (grp_at' v u (i 0) (i 1) hs)

/-- The eight index words of a trip. -/
theorem base_word : ∀ (k : Fin k1_t1_loop.trips) (u : Fin 8),
    Scalar.addi (Scalar.muli (Scf.iv 0#32 1#32 k) 64#32) (BitVec.ofNat 32 (8 * u.val)) = BitVec.ofNat 32 (8 * (8 * k.val + u.val)) := by
  decide +kernel

/-- One trip of the loop over a vector `v` that holds rows `64 k` to `64 k + 63`: eight groups more. -/
theorem trip_val (k : Fin k1_t1_loop.trips) (v : Vec F S1x64x128 .f32) (hv : ∀ i : S1x64x128.Idx, v i = R (64 * k.val + (i 1).val) (i 2)) :
    ((k1_pay10 (k1_pay14 v) (k1_pay30 (accV R (8 * k.val)) v) (k1_pay31 v) (k1_pay32 (accV R (8 * k.val)) v),
      k1_pay9 (k1_pay14 v) (Scalar.muli (Scf.iv 0#32 1#32 k) 64#32)
        (k1_pay29 (iota .tc S8x128 32 [0] iota_S8x128_d0_w32) 0#32 1#32 k (accV R (8 * k.val)) (accI R (8 * k.val)) v)
        (k1_pay30 (accV R (8 * k.val)) v) (k1_pay31 v) (k1_pay32 (accV R (8 * k.val)) v) 40#32) : FVec F S8x128 .f32 × IVec S8x128 32)
      = (accV R (8 * (k.val + 1)), accI R (8 * (k.val + 1))) := by
  have hg : ∀ (u : Fin 8) (off : Fin 3 → ℕ) (hu : off = ![u.val, 0, 0]) (hs : Shape.Slices S8x8x128 off S1x8x128) (i : S8x128.Idx),
      shapeCast S8x128 (extractStridedSlice S1x8x128 off (k1_pay14 v) hs) shapeCasts_S1x8x128_S8x128 i
        = R (8 * (8 * k.val + u.val) + (i 0).val) (i 1) := fun u off hu hs i => by
    rw [grp_at v u off hu hs i, hv]; congr 1; simp; omega
  have a0 : k1_pay17 (accV R (8 * k.val)) v = accV R (8 * k.val + 1) := stepV (hg 0 _ rfl _) rfl rfl
  have a1 : k1_pay20 (accV R (8 * k.val)) v = accV R (8 * k.val + 2) := stepV (hg 1 _ rfl _) a0 rfl
  have a2 : k1_pay23 (accV R (8 * k.val)) v = accV R (8 * k.val + 3) := stepV (hg 2 _ rfl _) a1 rfl
  have a3 : k1_pay26 (accV R (8 * k.val)) v = accV R (8 * k.val + 4) := stepV (hg 3 _ rfl _) a2 rfl
  have a4 : k1_pay30 (accV R (8 * k.val)) v = accV R (8 * k.val + 5) := stepV (hg 4 _ rfl _) a3 rfl
  have a5 : k1_pay3 (k1_pay30 (accV R (8 * k.val)) v) (k1_pay31 v) (k1_pay32 (accV R (8 * k.val)) v) = accV R (8 * k.val + 6) :=
    stepV (hg 5 _ rfl _) a4 rfl
  have a6 : k1_pay6 (k1_pay14 v) (k1_pay30 (accV R (8 * k.val)) v) (k1_pay31 v) (k1_pay32 (accV R (8 * k.val)) v) = accV R (8 * k.val + 7) :=
    stepV (hg 6 _ rfl _) a5 rfl
  refine Prod.ext (stepV (hg 7 _ rfl _) a6 rfl) ?_
  have w := base_word k
  exact stepI (hg 7 _ rfl _) a6 (stepI (hg 6 _ rfl _) a5 (stepI (hg 5 _ rfl _) a4 (stepI (hg 4 _ rfl _) a3 (stepI (hg 3 _ rfl _) a2
    (stepI (hg 2 _ rfl _) a1 (stepI (hg 1 _ rfl _) a0 (stepI (hg 0 _ rfl _) rfl rfl rfl (w 0)) rfl (w 1)) rfl (w 2)) rfl (w 3)) rfl (w 4)) rfl (w 5)) rfl (w 6)) rfl (w 7)

section Trip
variable (d : Dev nD)
variable (arg1 : Memref sig .tc .vmem S1x3584x128 .f32) (harg1 : arg1.IsWhole) (arg2 : Memref sig .tc .vmem S1x1x128 .f32) (harg2 : arg2.IsWhole)
  (arg3 : Memref sig .tc .vmem S1x1x128 .i32) (harg3 : arg3.IsWhole)

/-- The rows of a block. -/
def rowsOf (X : S1x3584x128.Idx → F .f32) (r : ℕ) (c : Fin 128) : F .f32 := X (ix3 0 (Fin.ofNat 3584 r) c)

/-- Before trip `k`: the carry is the state after `8 k` groups. -/
def tcInv (q : PosShare TreeShare) (f : Buf (Elt F) (arg1.view.loc (T (τ := τ) d))) (X : S1x3584x128.Idx → F .f32) (k : ℕ) (acc : FVec F S8x128 .f32 × IVec S8x128 32) : sProp 𝕄 :=
  iprop((arg1.view.loc (T (τ := τ) d) ↦[arg1.view.set]{q} f) ∗ ⌜acc = (accV (rowsOf X) (8 * k), accI (rowsOf X) (8 * k))⌝)

theorem tc_trip (q : PosShare TreeShare) (i : grid1.Coords) (f : Buf (Elt F) (arg1.view.loc (T (τ := τ) d))) (X : S1x3584x128.Idx → F .f32) (hf : arg1.view.read (Elt F) f = X)
    (k : Fin k1_t1_loop.trips) (acc : FVec F S8x128 .f32 × IVec S8x128 32) :
    tcInv d arg1 q f X k.val acc
      ⊢ wp frame (wpE (defs₀ (F := F)) 𝒱₀ (T d) none) Set.univ
          (k1_t1_body i arg1 harg1 arg2 harg2 arg3 harg3 (iota .tc S8x128 32 [0] iota_S8x128_d0_w32) k acc)
          fun acc' => tcInv d arg1 q f X (k.val + 1) acc' := by
  unfold tcInv
  iintro ⟨Ha, %hacc⟩
  obtain rfl := hacc
  sl_unfold [k1_t1_body]
  sl_exec
  sl_step
  isplitl [Ha]; · iexact Ha
  ipureintro
  subst hf
  refine trip_val k (View.readAt (Elt F) arg1.view (Rect.unit (s := S1x3584x128) (k1_off1 k) S1x64x128.size (k1_off1_inb k)).toLoadRect f) fun j => ?_
  have hk : k.val < 56 := k.isLt
  have h1 := (j 1).isLt
  have hr : 64 * k.val + (j 1).val < 3584 := by have : (j 1).val < 64 := h1; omega
  show arg1.view.read (Elt F) f _ = arg1.view.read (Elt F) f _
  congr 1
  funext a
  apply Fin.ext
  show k1_off1 k a + 1 * (j a).val = _
  rw [k1_off1_eq]
  fin_cases a
  · have : (j 0).val < 1 := (j 0).isLt
    simp; omega
  · simp [Fin.ofNat]; omega
  · simp

theorem tc_body (i : grid1.Coords) (X : S1x3584x128.Idx → F .f32) (Y2 : S1x1x128.Idx → F .f32) (Y3 : S1x1x128.Idx → BitVec 32) :
    iprop(owns (T (τ := τ) d) arg1 fullShare X ∗ owns (T (τ := τ) d) arg2 fullShare Y2 ∗ owns (T (τ := τ) d) arg3 fullShare Y3)
      ⊢ wp frame (wpE (defs₀ (F := F)) 𝒱₀ (T d) none) Set.univ (cc1__tc_body i arg1 harg1 arg2 harg2 arg3 harg3)
          fun _ => (iprop(owns (T (τ := τ) d) arg1 fullShare X ∗ owns (T (τ := τ) d) arg2 fullShare (k1_pay12 (accV (rowsOf X) 448))
            ∗ owns (T (τ := τ) d) arg3 fullShare (k1_pay13 (accV (rowsOf X) 448) (accI (rowsOf X) 448))) : sProp 𝕄) := by
  unfold owns
  iintro ⟨⟨%f1, %h1, H1⟩, ⟨%f2, %h2, H2⟩, ⟨%f3, %h3, H3⟩⟩
  sl_unfold [cc1__tc_body]
  sl_exec
  sl_for (tcInv d arg1 fullShare f1 X) $$ [H1]
  case region => intro k acc; exact tc_trip d arg1 harg1 arg2 harg2 arg3 harg3 fullShare i f1 X h1 k acc
  · unfold tcInv; iframe H1; ipureintro; rfl
  unfold tcInv
  iintro %acc ⟨H1, %hacc⟩
  sl_exec
  sl_step
  have hn : 8 * Scf.trips k1_t1_loop.lb k1_t1_loop.ub k1_t1_loop.st = 448 := by decide +kernel
  rw [hn] at hacc
  obtain rfl := hacc
  isplitl [H1]
  · iexists f1; iframe H1; ipureintro; exact h1
  isplitl [H2]
  · iexists _; iframe H2; ipureintro; exact View.read_writes_full _ _ _ _ _
  · iexists _; iframe H3; ipureintro; exact View.read_writes_full _ _ _ _ _

end Trip

end Cert.Proof
-- ==== Proof.Tc2.lean ====
/-
  One run of the body of the TensorCore call that puts the two halves together.
-/
module

public import proofs.«01_k».proof.Proof.Setup
public import proofs.«01_k».proof.Proof.Gen.KernelIdeal.Points
public import Idealize.ShloMosaic.Lib.VecWindow

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type} [FloatOps F]

local notation "𝕄" => MT nD τ sig (HIx 1) (Elt F) ℕ UU ℕ

section Merge
variable (d : Dev nD)
variable (arg0 : Memref sig .tc .vmem S64x1x128 .f32) (harg0 : arg0.IsWhole) (arg1 : Memref sig .tc .vmem S64x1x128 .i32) (harg1 : arg1.IsWhole)
  (arg2 : Memref sig .tc .vmem S64x128 .f32) (harg2 : arg2.IsWhole) (arg3 : Memref sig .tc .vmem S64x128 .i32) (harg3 : arg3.IsWhole)
  (arg4 : Memref sig .tc .vmem S64x128 .i32) (harg4 : arg4.IsWhole)

/-- The merge stores the kernel's choice between the two candidates of each entry, and leaves its operands as they were. -/
theorem merge_body (X0 : S64x1x128.Idx → F .f32) (X1 : S64x1x128.Idx → BitVec 32) (X2 : S64x128.Idx → F .f32) (X3 Y : S64x128.Idx → BitVec 32) :
    iprop(owns (T (τ := τ) d) arg0 fullShare X0 ∗ owns (T (τ := τ) d) arg1 fullShare X1 ∗ owns (T (τ := τ) d) arg2 fullShare X2
        ∗ owns (T (τ := τ) d) arg3 fullShare X3 ∗ owns (T (τ := τ) d) arg4 fullShare Y)
      ⊢ wp frame (wpE (defs₀ (F := F)) 𝒱₀ (T d) none) Set.univ
          (cc2__merge_body arg0 harg0 arg1 harg1 arg2 harg2 arg3 harg3 arg4 harg4)
          fun _ => (iprop(owns (T (τ := τ) d) arg0 fullShare X0 ∗ owns (T (τ := τ) d) arg1 fullShare X1 ∗ owns (T (τ := τ) d) arg2 fullShare X2
            ∗ owns (T (τ := τ) d) arg3 fullShare X3 ∗ owns (T (τ := τ) d) arg4 fullShare (k2_pay1 X2 X0 X3 X1)) : sProp 𝕄) := by
  unfold owns
  iintro ⟨⟨%f0, %h0, H0⟩, ⟨%f1, %h1, H1⟩, ⟨%f2, %h2, H2⟩, ⟨%f3, %h3, H3⟩, ⟨%f4, %h4, H4⟩⟩
  sl_unfold [cc2__merge_body]
  sl_exec
  sl_step
  subst h0 h1 h2 h3
  isplitl [H0]
  · iexists f0; iframe H0; ipureintro; rfl
  isplitl [H1]
  · iexists f1; iframe H1; ipureintro; rfl
  isplitl [H2]
  · iexists f2; iframe H2; ipureintro; rfl
  isplitl [H3]
  · iexists f3; iframe H3; ipureintro; rfl
  · iexists _; iframe H4; ipureintro
    refine (View.read_writes_full _ _ _ _ _).trans ?_
    congr 1 <;> exact View.readAt_full _ _ _

end Merge

end Cert.Proof
-- ==== Proof.Pipes.lean ====
/-
  The two TensorCore calls as pipelines: what their arrays and staging buffers hold, each body's obligation, and what the
  arrays hold after the run.
-/
module

public import proofs.«01_k».proof.Proof.Tc1
public import proofs.«01_k».proof.Proof.Tc2
public import Idealize.ShloMosaic.Lib.Pipeline.ValueKit
public import Idealize.ShloMosaic.Lib.Pipeline.ClipFacts
public import Idealize.ShloMosaic.Lib.Pipeline.RegionArrays

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligationLoose)
open Cert.Proof.Scan
open TcCoe

variable {F : FTy → Type} [FloatOps F]

local notation "𝕄" => MT nD τ sig (HIx 1) (Elt F) ℕ UU ℕ

variable (m : (ℓ : Loc nD τ sig) → Buf (Elt F) ℓ)

/-! ## What the arrays hold -/

/-- The first 3584 rows of a batch, as the block of the first call. -/
def rowBlk (X : FVec F S64x8192x128 .f32) (b : Fin 64) : S1x3584x128.Idx → F .f32 :=
  fun j => X (ix3 b ⟨(j 1).val, Nat.lt_of_lt_of_le (j 1).isLt (by decide)⟩ (j 2))

/-- The blocks of minima and rows the first call stores for a batch; -/
def valBlk (X : FVec F S64x8192x128 .f32) (b : Fin 64) : S1x1x128.Idx → F .f32 := k1_pay12 (accV (rowsOf (rowBlk X b)) 448)
def idxBlk (X : FVec F S64x8192x128 .f32) (b : Fin 64) : S1x1x128.Idx → BitVec 32 := k1_pay13 (accV (rowsOf (rowBlk X b)) 448) (accI (rowsOf (rowBlk X b)) 448)

/-- the two result arrays of that call, -/
def V10 (X : FVec F S64x8192x128 .f32) : FVec F S64x1x128 .f32 := fun j => valBlk X (j 0) (ix3 0 0 (j 2))
def V11 (X : FVec F S64x8192x128 .f32) : IVec S64x1x128 32 := fun j => idxBlk X (j 0) (ix3 0 0 (j 2))

/-- and the merge of them with the SparseCore's arrays. -/
def V2 (d : Dev nD) : IVec S64x128 32 := k2_pay1 (SCV m d) (V10 (X0 m d)) (SCI m d) (V11 (X0 m d))

/-- The pairs a core may have recorded after the SparseCore call: those at the levels of that call. -/
def seen (d : Dev nD) : Set (SemLoc sig × HIx 1) := {p | (K (F := F)).lev (T (τ := τ) d, p.1) p.2 ≤ 8 * 1}

/-! ## The proof data -/

/-- The first call: its operand at `x`, its results at whatever they held. -/
def dat1 (d : Dev nD) : Dat τ (Elt F) (HIx 1) ℕ UU ℕ cfg1 d where
  A w := m ((cfg1.win w).arr.view.loc (d.tc : Thread nD τ))
  after w t := match w with
    | ⟨0, _⟩ => rowBlk (X0 m d) (grid1.coords t 0)
    | ⟨1, _⟩ => valBlk (X0 m d) (grid1.coords t 0)
    | ⟨2, _⟩ => idxBlk (X0 m d) (grid1.coords t 0)
  Φ _ := Pipeline.scopedRest spec1 d
  q _ := fullShare
  owed _ := 0
  recorded _ := seen (F := F) d

/-- The second: its operands at what the first call and the SparseCore left. -/
def dat2 (d : Dev nD) : Dat τ (Elt F) (HIx 1) ℕ UU ℕ cfg2 d where
  A w := match w with
    | ⟨0, _⟩ => V10 (X0 m d)
    | ⟨1, _⟩ => V11 (X0 m d)
    | ⟨2, _⟩ => SCV m d
    | ⟨3, _⟩ => SCI m d
    | ⟨4, _⟩ => m ((d.tc : Thread nD τ).loc main_v2)
  after w t := match w with
    | ⟨0, _⟩ => V10 (X0 m d)
    | ⟨1, _⟩ => V11 (X0 m d)
    | ⟨2, _⟩ => SCV m d
    | ⟨3, _⟩ => SCI m d
    | ⟨4, _⟩ => V2 m d
  Φ _ := Pipeline.scopedRest spec2 d
  q _ := fullShare
  owed _ := 0
  recorded _ := seen (F := F) d

/-- No pipeline has a prefetched table. -/
abbrev adm : (p : Fin 2) → (pcfgs (F := F) p).Adm := fun p => (cfgs p).toPCfg_adm

/-- The two together. -/
def pdats (p : Fin 2) (d : Dev nD) : Dat τ (Elt F) (HIx 1) ℕ UU ℕ (Pipeline.pin (pcfgs (F := F)) adm p) d :=
  match p with
  | ⟨0, _⟩ => dat1 m d
  | ⟨1, _⟩ => dat2 m d

/-! ## The bodies -/

/-- The first call's operand block is never cut: what the body finds is the block, whatever the buffer held. -/
theorem before1_0 (d : Dev nD) (t : Fin cfg1.N) (z) : (dat1 m d).before (0 : Fin 3) t z = rowBlk (X0 m d) (grid1.coords t 0) := by
  unfold Dat.before; rw [if_pos (fetch1_0 t)]
  unfold Dat.fetched
  have hb : (grid1.coords t 0).val < 64 := (grid1.coords t 0).isLt
  have hc : ∀ a, (win1_0.clip (grid1.coords t) a) = none := fun a => by
    show Pipeline.Clip.of (cc1_transform_0 (grid1.coords t) a) (S1x3584x128.size a) (S64x8192x128.size a) = none
    refine Pipeline.Clip.of_eq_none ?_
    match a with
    | 0 =>
      show ((BitVec.ofNat 32 (grid1.coords t 0).val).toNat + 1) * 1 ≤ 64
      rw [BitVec.toNat_ofNat]; omega
    | 1 => exact (by decide : (0 + 1) * 3584 ≤ 8192)
    | 2 => exact (by decide : (0 + 1) * 128 ≤ 128)
  funext j
  have hm : win1_0.moved (grid1.coords t) j = true :=
    (win1_0.moved_iff _ j).mpr fun a => by have := (j a).isLt; unfold Window.xsize; rw [hc a]; exact this
  show win1_0.fill _ _ _ j = _
  unfold Window.fill
  rw [dif_pos hm]
  show m (xLoc d) _ = m (xLoc d) _
  congr 1
  funext a
  apply Fin.ext
  show cc1_transform_0 (grid1.coords t) a * S1x3584x128.size a + 1 * (j a).val = _
  fin_cases a
  · have : (j 0).val < 1 := (j 0).isLt
    show (BitVec.ofNat 32 (grid1.coords t 0).val).toNat * 1 + 1 * (j 0).val = (grid1.coords t 0).val
    rw [BitVec.toNat_ofNat]; omega
  · show 0 * 3584 + 1 * (j 1).val = (j 1).val; omega
  · show 0 * 128 + 1 * (j 2).val = (j 2).val; omega

/-- The first call's body at every point: the operand block as found, the two result blocks at the batch's minima and rows. -/
theorem body1 (d : Dev nD) : BodyObligationLoose (dat1 m d) (defs₀ (F := F)) 𝒱₀ none Set.univ := fun t => by
  rw [bigSep_W1, bigSep_W1]
  simp only
  rw [show (dat1 m d).Φ t.succ = (dat1 m d).Φ t.castSucc from rfl,
    show (dat1 m d).owesAt none t.succ = (dat1 m d).owesAt none t.castSucc from rfl]
  iintro ⟨HΦ, Ho, ⟨%d0, H0⟩, ⟨%d1, H1⟩, ⟨%d2, H2⟩⟩
  rw [before1_0]
  have hb := tc_body (F := F) d (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (grid1.coords t) (rowBlk (X0 m d) (grid1.coords t 0)) ((dat1 m d).before 1 t d1) ((dat1 m d).before 2 t d2)
  iapply wp_wand_r
  isplitl [H0 H1 H2]
  · iapply hb; iframe H0; iframe H1; iexact H2
  iintro %_ ⟨H0, H1, H2⟩
  isplitl [HΦ]; · iexact HΦ
  isplitl [Ho]; · iexact Ho
  isplitl [H0]
  · iexists (dat1 m d).after 0 t
    rw [(win1 0).fill_cut]
    iexact H0
  isplitl [H1]; · iexact H1
  iexact H2

/-- A window that is its whole array reads the array. -/
theorem whole_read {cs : CoreSpace} {s : Shape} {e : EltTy} (arr : Memref sig .tc .hbm s e) (o y : Bool) (stage : Memref sig .tc (.core cs) ⟨s.rank, s.size⟩ e)
    (sem : DmaSem sig) (harr : arr.IsWhole) (hstage : stage.IsWhole) (t : Fin Pipeline.Grid.none.N) (f : arr.view.ty.Contents (Elt F)) (j : s.Idx) :
    ((Window.whole arr o y stage sem harr hstage).blk t).view.read (Elt F) f j = arr.view.read (Elt F) f j := by
  show arr.view.read (Elt F) f _ = _
  congr 1
  funext a
  apply Fin.ext
  show 0 * s.size a + 1 * (j a).val = (j a).val
  omega

/-- What the merge's body finds in its four operand buffers: the arrays. -/
theorem before2_0 (d : Dev nD) (t : Fin cfg2.N) (z) : (dat2 m d).before (0 : Fin 5) t z = V10 (X0 m d) := by
  unfold Dat.before; rw [if_pos (fetch2_0 t)]; exact funext fun j => whole_read (F := F) (Memref.whole main_v1_0) false false (stage2_0 0) (sem2_0 0) (Memref.isWhole_whole _) (hstage2_0 0) t (V10 (X0 m d)) j
theorem before2_1 (d : Dev nD) (t : Fin cfg2.N) (z) : (dat2 m d).before (1 : Fin 5) t z = V11 (X0 m d) := by
  unfold Dat.before; rw [if_pos (fetch2_1 t)]; exact funext fun j => whole_read (F := F) (Memref.whole main_v1_1) false false (stage2_1 0) (sem2_1 0) (Memref.isWhole_whole _) (hstage2_1 0) t (V11 (X0 m d)) j
theorem before2_2 (d : Dev nD) (t : Fin cfg2.N) (z) : (dat2 m d).before (2 : Fin 5) t z = SCV m d := by
  unfold Dat.before; rw [if_pos (fetch2_2 t)]; exact funext fun j => whole_read (F := F) (Memref.whole main_v0_1) false false (stage2_2 0) (sem2_2 0) (Memref.isWhole_whole _) (hstage2_2 0) t (SCV m d) j
theorem before2_3 (d : Dev nD) (t : Fin cfg2.N) (z) : (dat2 m d).before (3 : Fin 5) t z = SCI m d := by
  unfold Dat.before; rw [if_pos (fetch2_3 t)]; exact funext fun j => whole_read (F := F) (Memref.whole main_v0_0) false false (stage2_3 0) (sem2_3 0) (Memref.isWhole_whole _) (hstage2_3 0) t (SCI m d) j

/-- The merge's body: the operands as found, the result at the merge. -/
theorem body2 (d : Dev nD) : BodyObligationLoose (dat2 m d) (defs₀ (F := F)) 𝒱₀ none Set.univ := fun t => by
  rw [bigSep_W2, bigSep_W2]
  simp only
  rw [show (dat2 m d).Φ t.succ = (dat2 m d).Φ t.castSucc from rfl,
    show (dat2 m d).owesAt none t.succ = (dat2 m d).owesAt none t.castSucc from rfl]
  iintro ⟨HΦ, Ho, ⟨%d0, H0⟩, ⟨%d1, H1⟩, ⟨%d2, H2⟩, ⟨%d3, H3⟩, ⟨%d4, H4⟩⟩
  rw [before2_0, before2_1, before2_2, before2_3]
  have hb := merge_body (F := F) d (stage2_0 0) (hstage2_0 0) (stage2_1 0) (hstage2_1 0) (stage2_2 0) (hstage2_2 0) (stage2_3 0) (hstage2_3 0)
    (stage2_4 0) (hstage2_4 0) (V10 (X0 m d)) (V11 (X0 m d)) (SCV m d) (SCI m d) ((dat2 m d).before 4 t d4)
  iapply wp_wand_r
  isplitl [H0 H1 H2 H3 H4]
  · iapply hb; iframe H0; iframe H1; iframe H2; iframe H3; iexact H4
  iintro %_ ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The arrays after the runs -/

/-- A result block of the first call at point `t` lies at batch `t`. -/
theorem place1 (t : Fin cfg1.N) (ix : Fin 3 → ℕ) (hix : ix = ![(BitVec.ofNat 32 (grid1.coords t 0).val).toNat, 0, 0]) (y : S1x1x128.Idx) (i : S64x1x128.Idx)
    (hi : ∀ a, (i a).val = ix a * S1x1x128.size a + 1 * (y a).val) : i 0 = grid1.coords t 0 ∧ ix3 0 0 (i 2) = y := by
  subst hix
  have hb : (grid1.coords t 0).val < 64 := (grid1.coords t 0).isLt
  have h0 : (i 0).val = (BitVec.ofNat 32 (grid1.coords t 0).val).toNat * 1 + 1 * (y 0).val := hi 0
  have h2 : (i 2).val = 0 * 128 + 1 * (y 2).val := hi 2
  have y0 : (y 0).val < 1 := (y 0).isLt
  have y1 : (y 1).val < 1 := (y 1).isLt
  rw [BitVec.toNat_ofNat] at h0
  refine ⟨Fin.ext (by omega), funext fun a => Fin.ext ?_⟩
  match a with
  | 0 => show 0 = (y 0).val; omega
  | 1 => show 0 = (y 1).val; omega
  | 2 => show (i 2).val = (y 2).val; omega

theorem arr1_0 (d : Dev nD) (n : ℕ) : (dat1 m d).arrAt (0 : Fin 3) n = m (xLoc d) := (dat1 m d).arrAt_in 0 rfl n
theorem arr1_1 (d : Dev nD) : (dat1 m d).arrAt (1 : Fin 3) cfg1.N = V10 (X0 m d) := by
  refine (dat1 m d).arrAt_eq_of_covers 1 _ (by decide +kernel) fun t hf y => ?_
  obtain ⟨h0, h1⟩ := place1 t _ rfl y ((win1_1.blk t).view.emb y) fun a => rfl
  exact (congrArg₂ (valBlk (X0 m d)) h0 h1).symm
theorem arr1_2 (d : Dev nD) : (dat1 m d).arrAt (2 : Fin 3) cfg1.N = V11 (X0 m d) := by
  refine (dat1 m d).arrAt_eq_of_covers 2 _ (by decide +kernel) fun t hf y => ?_
  obtain ⟨h0, h1⟩ := place1 t _ rfl y ((win1_2.blk t).view.emb y) fun a => rfl
  exact (congrArg₂ (idxBlk (X0 m d)) h0 h1).symm

theorem arr2_0 (d : Dev nD) (n : ℕ) : (dat2 m d).arrAt (0 : Fin 5) n = V10 (X0 m d) := (dat2 m d).arrAt_in 0 rfl n
theorem arr2_1 (d : Dev nD) (n : ℕ) : (dat2 m d).arrAt (1 : Fin 5) n = V11 (X0 m d) := (dat2 m d).arrAt_in 1 rfl n
theorem arr2_2 (d : Dev nD) (n : ℕ) : (dat2 m d).arrAt (2 : Fin 5) n = SCV m d := (dat2 m d).arrAt_in 2 rfl n
theorem arr2_3 (d : Dev nD) (n : ℕ) : (dat2 m d).arrAt (3 : Fin 5) n = SCI m d := (dat2 m d).arrAt_in 3 rfl n
theorem arr2_4 (d : Dev nD) : (dat2 m d).arrAt (4 : Fin 5) cfg2.N = V2 m d :=
  (dat2 m d).arrAt_eq_of_after_last (4 : Fin 5) t2_0 (by decide +kernel) _ fun j => rfl

/-! ## The two calls as regions of the main program -/

/-- A buffer of device `d` that its TensorCore names, whole, at contents `f`. -/
abbrev pts (d : Dev nD) (b : Ref sig .tc) (f : Buf (Elt F) ((d.tc : Thread nD τ).loc b)) : sProp 𝕄 := ((d.tc : Thread nD τ).loc b) ↦{fullShare} f

/-- What the core owes between the calls: nothing, having recorded pairs of the SparseCore call's levels only. -/
abbrev idle (d : Dev nD) : sProp 𝕄 := iprop(∃ W, ⌜(K (F := F)).WBelow (T (τ := τ) d) W (8 * 1)⌝ ∗ owes (T d) 0 W)

theorem idle_in (d : Dev nD) (B : Set (SemLoc sig × HIx 1)) (hB : seen (F := F) d ⊆ B) : (idle d : sProp 𝕄) ⊢ Pipeline.owesWithin d 0 B := by
  unfold Pipeline.owesWithin
  iintro ⟨%W, %hW, HO⟩
  iexists W
  isplitr
  · ipureintro; exact fun p hp => hB (hW p hp)
  iexact HO

theorem idle_out (d : Dev nD) (B : Set (SemLoc sig × HIx 1)) (hB : B ⊆ seen (F := F) d) : Pipeline.owesWithin d 0 B ⊢ (idle d : sProp 𝕄) := by
  unfold Pipeline.owesWithin
  iintro ⟨%W, %hW, HO⟩
  iexists W
  isplitr
  · ipureintro; exact fun p hp => hB (hW (Finset.mem_coe.mpr hp))
  iexact HO

theorem arrays1 (d : Dev nD) (n : ℕ) : ((dat1 m d).arrays ((dat1 m d).arrAt · n) : sProp 𝕄)
    = iprop(pts d main_arg0 ((dat1 m d).arrAt (0 : Fin 3) n) ∗ pts d main_v1_0 ((dat1 m d).arrAt (1 : Fin 3) n) ∗ pts d main_v1_1 ((dat1 m d).arrAt (2 : Fin 3) n)) :=
  (Pipeline.arrays_eq (Pipeline.pin (pcfgs (F := F)) adm) (pdats m) (0 : Fin 2) d arr_whole1 ((dat1 m d).share_full fun _ => rfl) ((dat1 m d).arrAt · n)).trans
    (bigSep_W1 _)

theorem arrays2 (d : Dev nD) (n : ℕ) : ((dat2 m d).arrays ((dat2 m d).arrAt · n) : sProp 𝕄)
    = iprop(pts d main_v1_0 ((dat2 m d).arrAt (0 : Fin 5) n) ∗ pts d main_v1_1 ((dat2 m d).arrAt (1 : Fin 5) n) ∗ pts d main_v0_1 ((dat2 m d).arrAt (2 : Fin 5) n)
        ∗ pts d main_v0_0 ((dat2 m d).arrAt (3 : Fin 5) n) ∗ pts d main_v2 ((dat2 m d).arrAt (4 : Fin 5) n)) :=
  (Pipeline.arrays_eq (Pipeline.pin (pcfgs (F := F)) adm) (pdats m) (1 : Fin 2) d arr_whole2 ((dat2 m d).share_full fun _ => rfl) ((dat2 m d).arrAt · n)).trans
    (bigSep_W2 _)

/-- What the core has recorded after a call is still at the levels of the SparseCore call or below. -/
theorem bound1 (d : Dev nD) : (dat1 m d).bound none (Fin.last cfg1.N) ⊆ seen (F := F) d := by
  rintro p (h | h)
  · exact h
  · obtain ⟨w, s, rfl⟩ := h
    exact Nat.zero_le _
theorem bound2 (d : Dev nD) : (dat2 m d).bound none (Fin.last cfg2.N) ⊆ seen (F := F) d := by
  rintro p (h | h)
  · exact h
  · obtain ⟨w, s, rfl⟩ := h
    exact Nat.zero_le _

/-- The first call as a region: from the operand and its two result arrays to the operand and the arrays' values. -/
def seg1 : Pipeline.RegionSeg (pcfgs (F := F)) adm (pdats m) (none : HIx 1) defs₀ 𝒱₀ (K (F := F)).L (K (F := F)).lev (0 : Fin 2) where
  win := winFacts1.to₀
  block_pos := block_pos1
  stage_whole := stage_whole1
  K := PEmpty
  osem k := k.elim
  ho := Pipeline.OwnSemFacts.none _
  hbody d := body1 m d
  hwaits := Pipeline.hwaits_of_owed_zero _ _ _ _ (K (F := F)).L (K (F := F)).lev (0 : Fin 2) fun _ _ => rfl
  pre d := iprop((pts d main_arg0 (X0 m d) ∗ pts d main_v1_0 (m _) ∗ pts d main_v1_1 (m _)) ∗ idle d)
  post d := iprop((pts d main_arg0 (X0 m d) ∗ pts d main_v1_0 (V10 (X0 m d)) ∗ pts d main_v1_1 (V11 (X0 m d))) ∗ idle d)
  X _ := iprop(emp)
  Y _ := iprop(emp)
  Z _ := iprop(emp)
  hentry d := by
    rw [Pipeline.ownSems0_none, Pipeline.prefHeld_of_none _ rfl]
    refine (show _ ⊢ |={Set.univ}=> iprop((dat1 m d).arrays ((dat1 m d).arrAt · 0) ∗ emp ∗ (dat1 m d).owesAt none 0 ∗ emp ∗ emp) from ?_)
    rw [arrays1]
    iintro ⟨⟨Ha, HO⟩, -, -⟩
    imodintro
    isplitl [Ha]; · iexact Ha
    isplitr; · iempintro
    isplitl [HO]
    · iapply (idle_in d _ fun p hp => Or.inl hp); iexact HO
    isplitr <;> iempintro
  hin d := show iprop(emp ∗ _ ∗ Pipeline.scopedRest spec1 d) ⊢ (Pipeline.scopedRest spec1 d : sProp 𝕄) by
    iintro ⟨-, -, H⟩; iexact H
  hout d := show (Pipeline.scopedRest spec1 d : sProp 𝕄) ⊢ iprop(emp ∗ Pipeline.ownSems0 (fun k : PEmpty => k.elim) d ∗ Pipeline.scopedRest spec1 d) by
    rw [Pipeline.ownSems0_none]
    iintro H
    isplitr; · iempintro
    isplitr; · iempintro
    iexact H
  hexit d := by
    refine (show iprop((dat1 m d).arrays ((dat1 m d).arrAt · cfg1.N) ∗ (dat1 m d).owesAt none (Fin.last cfg1.N) ∗ emp ∗ emp) ⊢ _ from ?_)
    rw [arrays1, arr1_0, arr1_1, arr1_2]
    iintro ⟨Ha, HO, -, -⟩
    imodintro
    isplitl [Ha]; · iexact Ha
    iapply (idle_out d _ (bound1 m d)); iexact HO

/-- The merge as a region. -/
def seg2 : Pipeline.RegionSeg (pcfgs (F := F)) adm (pdats m) (none : HIx 1) defs₀ 𝒱₀ (K (F := F)).L (K (F := F)).lev (1 : Fin 2) where
  win := winFacts2.to₀
  block_pos := block_pos2
  stage_whole := stage_whole2
  K := PEmpty
  osem k := k.elim
  ho := Pipeline.OwnSemFacts.none _
  hbody d := body2 m d
  hwaits := Pipeline.hwaits_of_owed_zero _ _ _ _ (K (F := F)).L (K (F := F)).lev (1 : Fin 2) fun _ _ => rfl
  pre d := iprop((pts d main_v1_0 (V10 (X0 m d)) ∗ pts d main_v1_1 (V11 (X0 m d)) ∗ pts d main_v0_1 (SCV m d) ∗ pts d main_v0_0 (SCI m d) ∗ pts d main_v2 (m _)) ∗ idle d)
  post d := iprop((pts d main_v1_0 (V10 (X0 m d)) ∗ pts d main_v1_1 (V11 (X0 m d)) ∗ pts d main_v0_1 (SCV m d) ∗ pts d main_v0_0 (SCI m d) ∗ pts d main_v2 (V2 m d)) ∗ idle d)
  X _ := iprop(emp)
  Y _ := iprop(emp)
  Z _ := iprop(emp)
  hentry d := by
    rw [Pipeline.ownSems0_none, Pipeline.prefHeld_of_none _ rfl]
    refine (show _ ⊢ |={Set.univ}=> iprop((dat2 m d).arrays ((dat2 m d).arrAt · 0) ∗ emp ∗ (dat2 m d).owesAt none 0 ∗ emp ∗ emp) from ?_)
    rw [arrays2, arr2_0, arr2_1, arr2_2, arr2_3]
    iintro ⟨⟨Ha, HO⟩, -, -⟩
    imodintro
    isplitl [Ha]; · iexact Ha
    isplitr; · iempintro
    isplitl [HO]
    · iapply (idle_in d _ fun p hp => Or.inl hp); iexact HO
    isplitr <;> iempintro
  hin d := show iprop(emp ∗ _ ∗ Pipeline.scopedRest spec2 d) ⊢ (Pipeline.scopedRest spec2 d : sProp 𝕄) by
    iintro ⟨-, -, H⟩; iexact H
  hout d := show (Pipeline.scopedRest spec2 d : sProp 𝕄) ⊢ iprop(emp ∗ Pipeline.ownSems0 (fun k : PEmpty => k.elim) d ∗ Pipeline.scopedRest spec2 d) by
    rw [Pipeline.ownSems0_none]
    iintro H
    isplitr; · iempintro
    isplitr; · iempintro
    iexact H
  hexit d := by
    refine (show iprop((dat2 m d).arrays ((dat2 m d).arrAt · cfg2.N) ∗ (dat2 m d).owesAt none (Fin.last cfg2.N) ∗ emp ∗ emp) ⊢ _ from ?_)
    rw [arrays2, arr2_0, arr2_1, arr2_2, arr2_3, arr2_4]
    iintro ⟨Ha, HO, -, -⟩
    imodintro
    isplitl [Ha]; · iexact Ha
    iapply (idle_out d _ (bound2 m d)); iexact HO

end Cert.Proof
-- ==== Proof.Launch.lean ====
/-
  The launch: @main on the TensorCore from the launch memory to the merged rows, the launch's ghost state, and the run of
  the whole program.
-/
module

public import proofs.«01_k».proof.Proof.Obl
public import proofs.«01_k».proof.Proof.Pipes

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type}

local notation "𝕄" => MT nD τ sig (HIx 1) (Elt F) ℕ UU ℕ

variable (m : (ℓ : Loc nD τ sig) → Buf (Elt F) ℓ) (ρ : Dev nD → PrngReg)

/-! ## Splitting the arrays among the tiles -/

/-- A points-to is what remains of its share and `n` read tokens. -/
theorem toks_eq {ℓ : Loc nD τ sig} (q : PosShare TreeShare) (n : ℕ) (f : Buf (Elt F) ℓ) :
    (ℓ ↦{q} f : sProp 𝕄) = iprop((ℓ ↦{Transfers.shareDrop q n} f) ∗ bigSep Finset.univ fun i : Fin n => ℓ ↦{Transfers.shareTok q n i} f) :=
  BI.Entails.antisymm (Transfers.pointsTo_toks q n).1 (Transfers.pointsTo_toks q n).2

/-- What remains of the input's share when every tile has its read share. -/
abbrev xRest0 (d : Dev nD) : sProp 𝕄 := xLoc d ↦{Transfers.shareDrop fullShare 2} m (xLoc d)
abbrev xRest1 (d : Dev nD) : sProp 𝕄 := bigSep Finset.univ fun c : Fin 2 => xLoc d ↦{Transfers.shareDrop (Transfers.shareTok fullShare 2 c) 16} m (xLoc d)

theorem x_split (d : Dev nD) : (xLoc d ↦{fullShare} m (xLoc d) : sProp 𝕄)
    = iprop(xRest0 m d ∗ xRest1 m d ∗ bigSep Finset.univ fun c : Fin 2 => bigSep Finset.univ fun i : Fin 16 => xShPts m d (c, i)) := by
  rw [toks_eq fullShare 2, bigSep_congr fun (c : Fin 2) _ => toks_eq (Transfers.shareTok fullShare 2 c) 16 (m (xLoc d)), bigSep_sep']

theorem oix_inj : Function.Injective oix := fun p p' h => by
  have h0 := congrFun h 0
  simp only [oix, Matrix.cons_val_zero] at h0
  have h1 := p.1.isLt; have h2 := p'.1.isLt
  exact Prod.ext (Fin.ext (by omega)) (Fin.ext (by omega))

theorem oblk_disjoint : ∀ p ∈ (Finset.univ : Finset (Fin 2 × Fin 16)), ∀ p' ∈ (Finset.univ : Finset (Fin 2 × Fin 16)), p ≠ p' →
    Disjoint (oblk p).set (oblk p').set :=
  fun p _ p' _ h => Rect.block_disjoint _ _ fun e => h (oix_inj e)

/-- Every position of a result array lies in the block of one tile. -/
theorem oblk_cover : (Finset.univ : Finset (Fin 2 × Fin 16)).biUnion (fun p => (oblk p).set) = Finset.univ := by
  refine Finset.eq_univ_of_forall fun x => Finset.mem_biUnion.mpr ?_
  have h0 : (x 0).val < 64 := (x 0).isLt
  have h1 : (x 1).val < 128 := (x 1).isLt
  refine ⟨(⟨(x 0).val / 2 % 2, by omega⟩, ⟨(x 0).val / 4, by omega⟩), Finset.mem_univ _, ?_⟩
  rw [Rect.mem_set_unit]
  intro a
  match a with
  | 0 =>
    show (2 * ((x 0).val / 4) + (x 0).val / 2 % 2) * 2 ≤ (x 0).val ∧ (x 0).val < (2 * ((x 0).val / 4) + (x 0).val / 2 % 2) * 2 + 2
    omega
  | 1 => show 0 * 128 ≤ (x 1).val ∧ (x 1).val < 0 * 128 + 128; omega

theorem i_split (d : Dev nD) (f : Buf (Elt F) (iLoc d)) :
    (iLoc d ↦{fullShare} f : sProp 𝕄) = bigSep Finset.univ fun c : Fin 2 => bigSep Finset.univ fun i : Fin 16 => iBlkPts d (c, i) f := by
  rw [← BI.bigSep_univ_prod (fun p : Fin 2 × Fin 16 => iBlkPts d p f), ← pointsTo_biUnion Finset.univ (ℓ := iLoc d) (fun p => (oblk p).set) oblk_disjoint, oblk_cover]
theorem v_split (d : Dev nD) (f : Buf (Elt F) (vLoc d)) :
    (vLoc d ↦{fullShare} f : sProp 𝕄) = bigSep Finset.univ fun c : Fin 2 => bigSep Finset.univ fun i : Fin 16 => vBlkPts d (c, i) f := by
  rw [← BI.bigSep_univ_prod (fun p : Fin 2 × Fin 16 => vBlkPts d p f), ← pointsTo_biUnion Finset.univ (ℓ := vLoc d) (fun p => (oblk p).set) oblk_disjoint, oblk_cover]

/-- The read shares of all tiles and the two result arrays whole are the tiles' pieces side by side. -/
theorem pieces (d : Dev nD) (f : Buf (Elt F) (iLoc d)) (g : Buf (Elt F) (vLoc d)) :
    (bigSep Finset.univ fun c : Fin 2 => bigSep Finset.univ fun i : Fin 16 => iprop(xShPts m d (c, i) ∗ iBlkPts d (c, i) f ∗ vBlkPts d (c, i) g))
      = (iprop((bigSep Finset.univ fun c : Fin 2 => bigSep Finset.univ fun i : Fin 16 => xShPts m d (c, i))
          ∗ (iLoc d ↦{fullShare} f) ∗ (vLoc d ↦{fullShare} g)) : sProp 𝕄) := by
  simp only [bigSep_sep']
  rw [i_split, v_split]

variable [FloatOps F]

theorem st0_eq (d : Dev nD) : (bigSep Finset.univ fun c : Fin ((K (F := F)).nCore 0) => (P m).st 0 d c)
    = iprop((bigSep Finset.univ fun c : Fin 2 => bigSep Finset.univ fun i : Fin 16 => xShPts m d (c, i))
          ∗ (iLoc d ↦{fullShare} m (iLoc d)) ∗ (vLoc d ↦{fullShare} m (vLoc d))) :=
  pieces m d (m (iLoc d)) (m (vLoc d))
theorem dn0_eq (d : Dev nD) : (bigSep Finset.univ fun c : Fin ((K (F := F)).nCore 0) => (P m).dn 0 d c)
    = iprop((bigSep Finset.univ fun c : Fin 2 => bigSep Finset.univ fun i : Fin 16 => xShPts m d (c, i))
          ∗ (iLoc d ↦{fullShare} SCI m d) ∗ (vLoc d ↦{fullShare} SCV m d)) :=
  pieces m d (SCI m d) (SCV m d)

/-! ## The launch's ghost state -/

/-- The launch's element: the handshakes' rounds and the TensorCore calls' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Device `d`'s part: both calls' cells and tokens. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem x_emp : (bigSep Finset.univ fun thr : Thread nD τ => bigSep Finset.univ fun q : Fin 1 => (P (F := F) m).x q thr) = (iprop(emp) : sProp 𝕄) :=
  (bigSep_congr fun _ _ => bigSep_univ_of_subsingleton (0 : Fin 1)).trans (bigSep_emp_const _)

/-- The calls' rounds, out of the pair they share with the transfers' counters. -/
theorem own_EP (a : UP) : (BI.own ((embR : Emb (UP × Counters) 𝕄) (a, 1)) : sProp 𝕄) ⊢ BI.own (EP a) := by
  have h : (BI.own ((embR : Emb (UP × Counters) 𝕄) (a, 1)) : sProp 𝕄) ⊢ iprop(BI.own ((embR : Emb (UP × Counters) 𝕄) (a, 1)) ∗ BI.own ((embR : Emb (UP × Counters) 𝕄) (1, 1))) :=
    BI.own_op_elim ((embR : Emb (UP × Counters) 𝕄).op_of_mem (Prod.mk_mem_op (URA.mem_op_one a) (URA.mem_one_op (1 : Counters))))
  exact h.trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  rw [x_emp]
  unfold u₀
  iintro Hu
  ihave H := (ownU_pair (initOf (K (F := F)).hsCells (K (F := F)).hsToks) _) $$ Hu
  icases H with ⟨HH, HP⟩
  ihave HP := (own_EP _) $$ HP
  imod (Pipeline.fund_ghost (Pipeline.pin (pcfgs (F := F)) adm) EP cellOf_inj) $$ HP with ⟨Hc, Ht⟩
  imodintro
  isplitl [HH]; · iexact HH
  isplitl
  · rw [bigSep_sep']
    isplitl [Hc]; · iexact Hc
    iexact Ht
  iempintro

/-! ## @main on the TensorCore -/

theorem unscopedBufs_eq (d : Dev nD) (W : (b : Ref sig .tc) → Buf (Elt F) ((d.tc : Thread nD τ).loc b)) :
    (unscopedBufs d W : sProp 𝕄) = iprop(pts d main_arg0 (W main_arg0) ∗ pts d main_v0_0 (W main_v0_0) ∗ pts d main_v0_1 (W main_v0_1)
      ∗ pts d main_v1_0 (W main_v1_0) ∗ pts d main_v1_1 (W main_v1_1) ∗ pts d main_v2 (W main_v2)) := by
  unfold unscopedBufs
  rw [show (Finset.univ.filter fun b : Ref sig .tc => ¬ b.isScoped) = {main_arg0, main_v0_0, main_v0_1, main_v1_0, main_v1_1, main_v2} by decide,
    SparseCore.bigSep_insert' (by decide), SparseCore.bigSep_insert' (by decide), SparseCore.bigSep_insert' (by decide),
    SparseCore.bigSep_insert' (by decide), SparseCore.bigSep_insert' (by decide), bigSep_singleton]

/-- What the run leaves that the claims speak of: the input as it was, the result at the merge. -/
abbrev FIN (d : Dev nD) : sProp 𝕄 := iprop(pts d main_arg0 (X0 m d) ∗ pts d main_v2 (V2 m d))

variable [∀ e, Nonempty (Elt F e)]

/-- A TensorCore call of @main, from its region. -/
theorem call_run (p : Fin 2) (R : Pipeline.RegionSeg (pcfgs (F := F)) adm (pdats m) (none : HIx 1) defs₀ 𝒱₀ (K (F := F)).L (K (F := F)).lev p) (d : Dev nD)
    (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  have h1 := (K (F := F)).wp_liftProg (D (F := F)) 𝒱 (SparseCore.T d) Set.univ none (.op (.customCall (Pipeline.entry p) ()) .ret) Q
  have h2 := Pipeline.RegionSeg.wp (pcfgs (F := F)) adm (pdats m) none cellOf_inj EP defs₀ 𝒱₀ (K (F := F)).L (K (F := F)).lev
    R d none (fun _ h => nomatch h) .ret Q
  iintro ⟨HQ, Hr⟩
  iapply h1
  iapply h2
  isplitl [HQ]
  · iintro H
    rw [wp_ret]
    imodintro
    iapply HQ; iexact H
  iexact Hr

theorem seg1_pre (d : Dev nD) : (seg1 m).pre d = iprop((pts d main_arg0 (X0 m d) ∗ pts d main_v1_0 (m _) ∗ pts d main_v1_1 (m _)) ∗ idle d) := rfl
theorem seg1_post (d : Dev nD) : (seg1 m).post d = iprop((pts d main_arg0 (X0 m d) ∗ pts d main_v1_0 (V10 (X0 m d)) ∗ pts d main_v1_1 (V11 (X0 m d))) ∗ idle d) := rfl
theorem seg2_pre (d : Dev nD) : (seg2 m).pre d = iprop((pts d main_v1_0 (V10 (X0 m d)) ∗ pts d main_v1_1 (V11 (X0 m d)) ∗ pts d main_v0_1 (SCV m d)
    ∗ pts d main_v0_0 (SCI m d) ∗ pts d main_v2 (m _)) ∗ idle d) := rfl
theorem seg2_post (d : Dev nD) : (seg2 m).post d = iprop((pts d main_v1_0 (V10 (X0 m d)) ∗ pts d main_v1_1 (V11 (X0 m d)) ∗ pts d main_v0_1 (SCV m d)
    ∗ pts d main_v0_0 (SCI m d) ∗ pts d main_v2 (V2 m d)) ∗ idle d) := rfl
theorem both (Φ : Fin 2 → sProp 𝕄) : bigSep Finset.univ Φ = iprop(Φ 0 ∗ Φ 1) := bigSep_fin_two Φ

theorem Otc_one (d : Dev nD) : (K (F := F)).Otc d 1 = 0 := by
  unfold SparseCore.Cfg.Otc
  refine Finset.sum_eq_zero fun q _ => if_neg ?_
  omega

theorem idle_eq (d : Dev nD) : (iprop(∃ W, ⌜(K (F := F)).WBelow (T (τ := τ) d) W (8 * SparseCore.Cfg.Blocks.fst 1 1 1)⌝ ∗ owes (T d) ((K (F := F)).Otc d 1) W) : sProp 𝕄)
    = idle d := by
  rw [Otc_one]; rfl

/-- @main on device `d`'s TensorCore: the SparseCore call, the first TensorCore call, the merge. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Hv, H10, H11, H2⟩, Hts, -⟩, HG⟩
  ihave #Hlev := ((K (F := F)).ctx_levAts (EH := EH) (P := P m) κ) $$ Hctx
  ihave Hx := (Entails.of_eq (x_split m d)) $$ Hx
  icases Hx with ⟨Hx0, Hx1, Hx⟩
  iapply ((K (F := F)).wp_run (D (F := F)) 𝒱 (EH := EH) (P := P m) κ d 0)
  isplitr; · iexact Hctx
  isplitl [Hst]; · iexact Hst
  isplitl [Hx Hi Hv]
  · rw [st0_eq]
    isplitl [Hx]; · iexact Hx
    isplitl [Hi]; · iexact Hi
    iexact Hv
  iintro ⟨Hst, Hdn⟩
  ihave Hdn := (Entails.of_eq (dn0_eq m d)) $$ Hdn
  icases Hdn with ⟨Hx, Hi, Hv⟩
  ihave Hx := (Entails.of_eq (x_split m d).symm) $$ [Hx0 Hx1 Hx]
  · isplitl [Hx0]; · iexact Hx0
    isplitl [Hx1]; · iexact Hx1
    iexact Hx
  ihave Hst := (show ((K (F := F)).tcSt EH d ((0 : Fin 1).val + 1) : sProp 𝕄) ⊢ (K (F := F)).tcSt EH d 1 from Entails.of_eq rfl) $$ Hst
  unfold SparseCore.Cfg.tcSt
  icases Hst with ⟨Hidle, Hst⟩
  ihave Hidle := (Entails.of_eq (idle_eq d)) $$ Hidle
  unfold G
  rw [both, both]
  icases HG with ⟨⟨Hc0, Hc1⟩, Ht0, Ht1⟩
  iapply (call_run m 0 (seg1 m) d)
  rw [seg1_pre, seg1_post]
  isplitr [Hb Hx H10 H11 Hidle Hc0 Ht0]
  · iintro ⟨Hb, ⟨⟨Hx, H10, H11⟩, Hidle⟩⟩
    iapply (call_run m 1 (seg2 m) d)
    rw [seg2_pre, seg2_post]
    isplitr [Hb H10 H11 Hv Hi H2 Hidle Hc1 Ht1]
    · iintro ⟨Hb, ⟨⟨H10, H11, Hv, Hi, H2⟩, Hidle⟩⟩
      imodintro
      isplitl [Hidle Hst]
      · isplitl [Hidle]
        · iapply (Entails.of_eq (idle_eq d).symm); iexact Hidle
        iexact Hst
      isplitl [Hx H2]
      · isplitl [Hx]; · iexact Hx
        iexact H2
      isplitl [Hb]; · iexact Hb
      iexact Hts
    · isplitl [Hb]; · iexact Hb
      isplitl [H10 H11 Hv Hi H2 Hidle]
      · isplitr [Hidle]
        · isplitl [H10]; · iexact H10
          isplitl [H11]; · iexact H11
          isplitl [Hv]; · iexact Hv
          isplitl [Hi]; · iexact Hi
          iexact H2
        iexact Hidle
      isplitr; · iexact Hlev
      isplitl [Hc1]; · iexact Hc1
      iexact Ht1
  · isplitl [Hb]; · iexact Hb
    isplitl [Hx H10 H11 Hidle]
    · isplitr [Hidle]
      · isplitl [Hx]; · iexact Hx
        isplitl [H10]; · iexact H10
        iexact H11
      iexact Hidle
    isplitr; · iexact Hlev
    isplitl [Hc0]; · iexact Hc0
    iexact Ht0

/-! ## What the final memory holds, and the run -/

def fq (d : Dev nD) (s' : Phys nD τ sig (Elt F)) : Prop :=
  s'.mem.mem ((d.tc : Thread nD τ).loc main_v2) = V2 m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, H2⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := (d.tc : Thread nD τ).loc main_v2) (I := Finset.univ) (q := fullShare) (f := V2 m d)) $$ [HSI H2]
  · isplitl [HSI] <;> iassumption
  icases H with %h2
  ipureintro
  exact ⟨funext fun i => h2 i (by simp), funext fun i => h1 i (by simp)⟩

/-- What every run ends in: the merged rows in the result, the input as it was, every semaphore at zero. -/
def QC : PUnit × MemSt nD τ sig (Elt F) → Prop := fun r =>
  (∀ d : Dev nD, r.2.mem ((d.tc : Thread nD τ).loc main_v2) = V2 m d ∧ r.2.mem (xLoc d) = m (xLoc d)) ∧ r.2.sem = fun _ => 0

theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof
-- ==== Proof.Frames.lean ====
/-
  What each of the three programs leaves: the kernel as printed and read at the extended reals, and the reference.
-/
module

public import proofs.«01_k».proof.Defs
public import proofs.«01_k».proof.Proof.Gen.Kernel
public import proofs.«01_k».proof.Proof.Launch
public import Idealize.ShloMosaic.PureOps.Ideal

@[expose] public section

noncomputable section

namespace Cert.Proof

open Idealize.ShloMosaic Idealize.SL.Sem

/-! ## The kernel as printed and its reading at the extended reals are one text -/

variable {F : FTy → Type} [FloatOps F]

theorem bodies_tc (ℓ : Fin 3) : Cert.Kernel.defs₀ (F := F) .tc ℓ = Cert.KernelIdeal.defs₀ (F := F) .tc ℓ := by
  fin_cases ℓ <;> rfl
theorem bodies_scalar (c) (ℓ : Fin 3) : Cert.Kernel.defs₀ (F := F) (.scScalar c) ℓ = Cert.KernelIdeal.defs₀ (F := F) (.scScalar c) ℓ := by
  fin_cases ℓ <;> rfl
theorem bodies_vector (c s) (ℓ : Fin 3) : Cert.Kernel.defs₀ (F := F) (.scVector c s) ℓ = Cert.KernelIdeal.defs₀ (F := F) (.scVector c s) ℓ := by
  fin_cases ℓ <;> rfl
theorem bodies : Cert.Kernel.defs₀ (F := F) = Cert.KernelIdeal.defs₀ (F := F) := by
  funext p ℓ a
  match p with
  | .tc => exact congrFun (bodies_tc ℓ) a
  | .scScalar c => exact congrFun (bodies_scalar c ℓ) a
  | .scVector c s => exact congrFun (bodies_vector c s ℓ) a
theorem defs_eq : Cert.Kernel.defs (F := F) = Cert.KernelIdeal.defs (F := F) :=
  congrArg (fun D => Cert.KernelIdeal.sc.defs (Pipeline.defs (Cert.KernelIdeal.pcfgs (F := F)) D)) bodies

/-! ## The frames -/

/-- The kernel as printed runs, and leaves its argument and every semaphore as they were. -/
theorem frame_kernel : Cert.quiescent_Kernel := fun m ρ _ => by
  rw [defs_eq]
  exact (θ_run (Cert.KernelIdeal.defs (F := Bits)) (Cert.KernelIdeal.threads (F := Bits)) _).mono (fun _ h => ⟨fun c => (h.1 c).2, h.2⟩) (run_main (F := Bits) m ρ)

/-- So does its reading at the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

end Cert.Proof
-- ==== Proof.Ref.lean ====
/-
  The reference: its five operations, and what they leave.
-/
module

public import proofs.«01_k».proof.Defs
public import proofs.«01_k».proof.Proof.Gen.ReferenceIdeal
public import Idealize.ShloMosaic.Lib.Claim
public import Idealize.ShloMosaic.PureOps.Ideal

@[expose] public section

noncomputable section

namespace Cert.Proof.Ref

open Cert.ReferenceIdeal
open Idealize.ShloMosaic Idealize.ShloMosaic.StableHlo Idealize.SL.Sem
open TcCoe Facts₀

variable {F : FTy → Type} [FloatOps F]

/-- Five operations of the reference's shape: three constants, and two results of the argument and the constants. -/
abbrev opsOf (ri : IVec S64x8192x128 32) (cv : FVec F S_ .f32) (ci : IVec S_ 32)
    (f : FVec F S64x8192x128 .f32 → IVec S64x8192x128 32 → FVec F S_ .f32 → IVec S_ 32 → FVec F S64x128 .f32)
    (g : FVec F S64x8192x128 .f32 → IVec S64x8192x128 32 → FVec F S_ .f32 → IVec S_ 32 → IVec S64x128 32) :
    List (HloOp τ sig (Elt F)) :=
  [TRef.nullary main_call0.v0 ri,
   TRef.nullary main_call0.cst cv,
   TRef.nullary main_call0.c ci,
   TRef.quaternary (.of main_arg0) main_call0.v0 main_call0.cst main_call0.c main_call0.v1_0 f,
   TRef.quaternary (.of main_arg0) main_call0.v0 main_call0.cst main_call0.c main_call0.v1_1 g]

/-- They leave the last function of the argument and the constants in the last buffer. -/
theorem opsOf_out (ri : IVec S64x8192x128 32) (cv : FVec F S_ .f32) (ci : IVec S_ 32)
    (f : FVec F S64x8192x128 .f32 → IVec S64x8192x128 32 → FVec F S_ .f32 → IVec S_ 32 → FVec F S64x128 .f32)
    (g : FVec F S64x8192x128 .f32 → IVec S64x8192x128 32 → FVec F S_ .f32 → IVec S_ 32 → IVec S64x128 32)
    (V : Valuation τ sig (Elt F)) :
    after (opsOf ri cv ci f g) V (main_v0 : DevRef τ sig) = g (V (main_arg0 : DevRef τ sig)) ri cv ci := by
  simp only [after_cons, after_nil]
  rfl

/-- They leave the argument as it was. -/
theorem opsOf_arg (ri : IVec S64x8192x128 32) (cv : FVec F S_ .f32) (ci : IVec S_ 32)
    (f : FVec F S64x8192x128 .f32 → IVec S64x8192x128 32 → FVec F S_ .f32 → IVec S_ 32 → FVec F S64x128 .f32)
    (g : FVec F S64x8192x128 .f32 → IVec S64x8192x128 32 → FVec F S_ .f32 → IVec S_ 32 → IVec S64x128 32)
    (V : Valuation τ sig (Elt F)) :
    after (opsOf ri cv ci f g) V (main_arg0 : DevRef τ sig) = V (main_arg0 : DevRef τ sig) := by
  simp only [after_cons, after_nil]
  rfl

/-- The second components of a family of pairs. -/
def seconds {ι α β : Type} (p : ι → α × β) : ι → β := fun j => (p j).2

theorem seconds_apply {ι α β : Type} (p : ι → α × β) (j : ι) : seconds p j = (p j).2 := rfl
theorem seconds_eq {ι α β : Type} (p : ι → α × β) : seconds p = fun j => (p j).2 := rfl

/-- The arg-min over the rows, value and row, of an argument, its row numbers, and the pair the reduction starts from. -/
def pairs (x : FVec F S64x8192x128 .f32) (ri : IVec S64x8192x128 32) (cv : FVec F S_ .f32) (ci : IVec S_ 32) :
    S64x128.Idx → F .f32 × BitVec 32 :=
  Host.argReduce reducer_argmin_f32_i32 x ri cv ci reducesTo_S64x8192x128_S64x128_d1 h_S_

/-- It is the library's reduction. -/
theorem pairs_eq (x : FVec F S64x8192x128 .f32) (ri : IVec S64x8192x128 32) (cv : FVec F S_ .f32) (ci : IVec S_ 32) :
    pairs x ri cv ci = Host.argReduce reducer_argmin_f32_i32 x ri cv ci reducesTo_S64x8192x128_S64x128_d1 h_S_ := by
  unfold pairs
  with_reducible rfl

/-- The arg-min of the rows, its index: what the reference computes of its argument. -/
def out (x : FVec F S64x8192x128 .f32) : IVec S64x128 32 :=
  seconds (pairs x (iotaInDim S64x8192x128 32 1) (constant S_ .f32 0x7F800000#32) (constantI S_ 32 0#32))

theorem out_eq (x : FVec F S64x8192x128 .f32) :
    out x = seconds (pairs x (iotaInDim S64x8192x128 32 1) (constant S_ .f32 0x7F800000#32) (constantI S_ 32 0#32)) := by
  unfold out
  with_reducible rfl

/-- The same, as the reference's operation writes it. -/
theorem out_raw (x : FVec F S64x8192x128 .f32) :
    out x = fun j => (Host.argReduce reducer_argmin_f32_i32 x (iotaInDim S64x8192x128 32 1) (constant S_ .f32 0x7F800000#32)
      (constantI S_ 32 0#32) reducesTo_S64x8192x128_S64x128_d1 h_S_ j).2 := by
  rw [out_eq, pairs_eq]
  exact seconds_eq _

/-- The reference's operations in order: the row numbers, +∞, zero, and the two results of the arg-min. -/
abbrev ops : List (HloOp τ sig (Elt F)) :=
  opsOf (iotaInDim S64x8192x128 32 1) (constant S_ .f32 0x7F800000#32) (constantI S_ 32 0#32)
    (fun x y u v j => (Host.argReduce reducer_argmin_f32_i32 x y u v reducesTo_S64x8192x128_S64x128_d1 h_S_ j).1)
    (fun x y u v j => (Host.argReduce reducer_argmin_f32_i32 x y u v reducesTo_S64x8192x128_S64x128_d1 h_S_ j).2)

theorem main_eq (d : Dev nD) : main (F := F) d = seq ops := by
  unfold main fn_argmin.body ops
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..⟩

/-- The reference runs, leaves `out` of its argument in its result and its argument as it was. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v0) = out (m ((c.tc : Thread nD τ).loc main_arg0))
        ∧ r.2.mem ((c.tc : Thread nD τ).loc main_arg0) = m ((c.tc : Thread nD τ).loc main_arg0)) ∧ r.2.sem = fun _ => 0 :=
  (θ_run (defs (F := F)) _ _).mono
    (fun r h => ⟨fun c => ⟨((h c main_v0).trans (opsOf_out _ _ _ _ _ _)).trans (out_raw _).symm, (h c main_arg0).trans (opsOf_arg _ _ _ _ _ _)⟩,
      sem_eq_zero_of_no_sems (by decide) r.2⟩)
    (run_seq scopedRefs_eq scopedSems_eq defs main (fun _ => ops) main_eq (fun _ => ops_sub) m ρ)

/-- The frame of the reference: its argument and every semaphore end as they were. -/
theorem frame : Cert.quiescent_ReferenceIdeal := fun m ρ _ =>
  (θ_run (Cert.ReferenceIdeal.defs (F := Ideal)) _ _).mono (fun _ h => ⟨fun c => (h.1 c).2, h.2⟩) (run_main (F := Ideal) m ρ)

end Cert.Proof.Ref
-- ==== Proof.Best.lean ====
/-
  The least value of a column over a set of rows, and the first row that holds it.

  `Best x S v i` says that over the rows in `S` the column `x` has the least value `v`, first met at row `i`; where every
  value is the greatest of the order, `i` is row 0.  The pair is determined by the set (`Best.unique`), so any two ways of
  walking the same rows end with the same row number, however they cut or order the walk.
-/
module

public import Idealize.ShloMosaic.PureOps
public import Mathlib.Order.BoundedOrder.Basic

@[expose] public section

namespace Cert.Proof

variable {α : Type} [LinearOrder α] [OrderTop α]

/-- `v` is the least value of `x` over the rows in `S`, and `i` the first of those rows that holds it, or 0 where no row
    of `S` is below the greatest value. -/
def Best (x : ℕ → α) (S : ℕ → Prop) (v : α) (i : ℕ) : Prop :=
  (∀ r, S r → v ≤ x r) ∧ (v = ⊤ ∧ i = 0 ∨ v < ⊤ ∧ S i ∧ x i = v ∧ ∀ r, S r → r < i → v < x r)

namespace Best

variable {x : ℕ → α} {S T : ℕ → Prop} {v w : α} {i k : ℕ}

/-- The set determines the row. -/
theorem unique (h : Best x S v i) (h' : Best x S w k) : i = k := by
  obtain ⟨hv, ⟨rfl, rfl⟩ | ⟨hlt, hi, hx, hf⟩⟩ := h <;> obtain ⟨hw, ⟨rfl, rfl⟩ | ⟨hlt', hk, hx', hf'⟩⟩ := h'
  · rfl
  · exact absurd (hx' ▸ hv k hk) (not_le_of_gt hlt')
  · exact absurd (hx ▸ hw i hi) (not_le_of_gt hlt)
  · have e : v = w := le_antisymm (hx' ▸ hv k hk) (hx ▸ hw i hi)
    subst e
    rcases lt_trichotomy i k with h | h | h
    · exact absurd hx (ne_of_gt (hf' i hi h))
    · exact h
    · exact absurd hx' (ne_of_gt (hf k hk h))

/-- No rows yet. -/
theorem empty (hS : ∀ r, ¬ S r) : Best x S ⊤ 0 := ⟨fun r h => absurd h (hS r), .inl ⟨rfl, rfl⟩⟩

theorem congr (h : Best x S v i) (e : ∀ r, S r ↔ T r) : Best x T v i := by
  have : S = T := funext fun r => propext (e r)
  exact this ▸ h

/-- Rows `T` after all the rows `S`: the later pair replaces the earlier when its value is strictly less. -/
theorem union (h : Best x S v i) (h' : Best x T w k) (hST : ∀ r s, S r → T s → r < s) :
    Best x (fun r => S r ∨ T r) (min v w) (if w < v then k else i) := by
  obtain ⟨hv, hi⟩ := h
  obtain ⟨hw, hk⟩ := h'
  refine ⟨fun r hr => hr.elim (fun h => (min_le_left _ _).trans (hv r h)) fun h => (min_le_right _ _).trans (hw r h), ?_⟩
  by_cases hlt : w < v
  · rw [if_pos hlt, min_eq_right hlt.le]
    rcases hk with ⟨rfl, -⟩ | ⟨ht, hk, hx, hf⟩
    · exact absurd hlt not_top_lt
    · exact .inr ⟨ht, .inr hk, hx, fun r hr hrk => hr.elim (fun h => hlt.trans_le (hv r h)) fun h => hf r h hrk⟩
  · rw [if_neg hlt, min_eq_left (not_lt.1 hlt)]
    rcases hi with ⟨rfl, rfl⟩ | ⟨ht, hi, hx, hf⟩
    · exact .inl ⟨rfl, rfl⟩
    · exact .inr ⟨ht, .inl hi, hx, fun r hr hri => hr.elim (fun h => hf r h hri) fun h => absurd hri (not_lt.2 (hST i r hi h).le)⟩

/-- One row `r` after all the rows `S`. -/
theorem snoc {r : ℕ} (h : Best x S v i) (hS : ∀ s, S s → s < r) :
    Best x (fun s => S s ∨ s = r) (min v (x r)) (if x r < v then r else i) := by
  by_cases ht : x r < ⊤
  · exact h.union (T := fun s => s = r) ⟨fun s e => e ▸ le_rfl, .inr ⟨ht, rfl, rfl, fun s e hs => absurd (e ▸ hs) (lt_irrefl _)⟩⟩
      fun a s ha e => e ▸ hS a ha
  · have hx : x r = ⊤ := top_unique (not_lt.1 ht)
    have h0 := h.union (T := fun s => s = r) (w := ⊤) (k := 0) ⟨fun s e => e ▸ hx.ge, .inl ⟨rfl, rfl⟩⟩ fun a s ha e => e ▸ hS a ha
    rw [if_neg not_top_lt] at h0
    rw [hx, if_neg not_top_lt]
    exact h0

/-- Several sets in any order: `m` is the least of their values, `k` the least row among the sets that reach it. -/
theorem iUnion {ι : Type} {S : ι → ℕ → Prop} {v : ι → α} {i : ι → ℕ} {m : α} (h : ∀ s, Best x (S s) (v s) (i s))
    (hm : ∀ s, m ≤ v s) (hk : ∃ s, v s = m ∧ i s = k) (hk' : ∀ s, v s = m → k ≤ i s) :
    Best x (fun r => ∃ s, S s r) m k := by
  obtain ⟨s₀, e, rfl⟩ := hk
  refine ⟨fun r ⟨s, hs⟩ => (hm s).trans ((h s).1 r hs), ?_⟩
  rcases (h s₀).2 with ⟨e', e0⟩ | ⟨ht, hi, hx, -⟩
  · exact .inl ⟨e.symm.trans e', e0⟩
  · refine .inr ⟨e ▸ ht, ⟨s₀, hi⟩, hx.trans e, fun r ⟨s, hs⟩ hr => ?_⟩
    rcases (hm s).lt_or_eq with hlt | heq
    · exact hlt.trans_le ((h s).1 r hs)
    · rcases (h s).2 with ⟨e1, -⟩ | ⟨-, -, -, hf⟩
      · exact absurd (e ▸ ht) (by rw [heq, e1]; exact lt_irrefl _)
      · exact heq ▸ hf r hs (hr.trans_le (hk' s heq.symm))

end Best

/-- A left fold over `0, 1, …, N - 1` keeps what each of its steps keeps. -/
theorem foldl_finRange {β : Type} (P : ℕ → β → Prop) {N : ℕ} (f : β → Fin N → β) (b : β) (h0 : P 0 b)
    (hs : ∀ (n : Fin N) (b : β), P n.val b → P (n.val + 1) (f b n)) : P N ((List.finRange N).foldl f b) := by
  induction N with
  | zero => exact h0
  | succ N ih =>
    rw [List.finRange_succ_last, List.foldl_append, List.foldl_map]
    exact hs (Fin.last N) _ (ih (fun b n => f b n.castSucc) fun n b hb => hs n.castSucc b hb)

end Cert.Proof
-- ==== Proof.Walks.lean ====
/-
  At the extended reals, each walk of the rows ends with the least value and its first row.

  Four walks: the SparseCore's scan of row pairs, the TensorCore's scan of every eighth row, its two reductions over the
  eight sublanes, and the reference's fold.  Each is shown to establish `Best` over the rows that it has met.
-/
module

public import proofs.«01_k».proof.Proof.Best
public import proofs.«01_k».proof.Proof.Pipes
public import proofs.«01_k».proof.Proof.Ref
public import Idealize.ShloMosaic.PureOps.Ideal
public import Idealize.ShloMosaic.PureOps.Ideal.Laws

@[expose] public section

noncomputable section

namespace Cert.Proof.Walks

open Idealize.ShloMosaic Idealize.ShloMosaic.ValueIdx
open Cert.Proof.Scan

/-! ## Comparisons and minima at the extended reals -/

theorem inf_top : (Scalar.ofBits .f32 0x7F800000#32 : Ideal .f32) = (⊤ : EReal) := by
  show Ideal.ofBits .f32 0x7F800000#32 = _
  simp [Ideal.ofBits, Ideal.ieee]

theorem select_decide {β : Type} (p : Prop) [Decidable p] (a b : β) :
    Scalar.select (BitVec.ofBool (decide p)) a b = if p then a else b := by
  unfold Scalar.select
  by_cases h : p <;> simp [h]

theorem select_olt {β : Type} (u v : EReal) (a b : β) :
    Scalar.select (FloatOps.cmpf (F := Ideal) (φ := .f32) .olt u v) a b = if u < v then a else b :=
  select_decide (u < v) a b

/-- The carried pair of a walk, its row a 32-bit word: the least value and the first row over the rows in `S`. -/
def BestB (x : ℕ → EReal) (S : ℕ → Prop) (p : EReal × BitVec 32) : Prop :=
  ∃ i : ℕ, p.2 = BitVec.ofNat 32 i ∧ Best x S p.1 i

theorem BestB.congr {x : ℕ → EReal} {S T : ℕ → Prop} {p : EReal × BitVec 32} (h : BestB x S p) (e : ∀ r, S r ↔ T r) : BestB x T p :=
  h.elim fun i hi => ⟨i, hi.1, hi.2.congr e⟩

/-- Two walks over the same rows end with the same word. -/
theorem BestB.unique {x : ℕ → EReal} {S : ℕ → Prop} {p q : EReal × BitVec 32} (h : BestB x S p) (h' : BestB x S q) : p.2 = q.2 := by
  obtain ⟨i, hi, hb⟩ := h
  obtain ⟨k, hk, hb'⟩ := h'
  rw [hi, hk, hb.unique hb']

/-- The first row of a bounded set of rows is below the bound. -/
theorem row_lt {x : ℕ → EReal} {S : ℕ → Prop} {v : EReal} {i N : ℕ} (h : Best x S v i) (hS : ∀ r, S r → r < N) (hN : 0 < N) : i < N := by
  rcases h.2 with ⟨-, rfl⟩ | ⟨-, hi, -⟩
  · exact hN
  · exact hS i hi

/-! ## The SparseCore's scan -/

theorem pair_fst (s u v : EReal) : min s (min u v) = min (min s u) v := (min_assoc _ _ _).symm

/-- One pair's choice of row is that of its two rows one after the other. -/
theorem pair_snd (s u v : EReal) (i b : ℕ) :
    (if min u v < s then (if v < u then b + 1 else b) else i) = if v < min s u then b + 1 else if u < s then b else i := by
  rcases lt_or_ge v u with h | h
  · rw [min_eq_right h.le, if_pos h]
    by_cases h2 : v < s
    · rw [if_pos h2, if_pos (lt_min h2 h)]
    · rw [if_neg h2, if_neg fun h3 => h2 (h3.trans_le (min_le_left _ _)), if_neg fun h3 => h2 (h.trans h3)]
  · have h3 : ¬ v < min s u := fun h3 => absurd (h3.trans_le (min_le_right _ _)) (not_lt.2 h)
    rw [min_eq_left h, if_neg (not_lt.2 h), if_neg h3]

theorem scan_best (X : FVec Ideal Cert.KernelIdeal.S64x8192x128 .f32) (b : Fin 64) (c : Fin 128) (n : ℕ) :
    BestB (xAt X b c) (fun r => 3584 ≤ r ∧ r < 3584 + 2 * n) (scan X b c n) := by
  induction n with
  | zero => exact ⟨0, rfl, by rw [show (scan X b c 0).1 = (⊤ : EReal) from inf_top]; exact Best.empty fun r h => by omega⟩
  | succ n ih =>
    obtain ⟨i, hi, hb⟩ := ih
    have h1 := hb.snoc (r := 3584 + 2 * n) fun s hs => hs.2
    have h2 := h1.snoc (r := 3584 + 2 * n + 1) fun s hs => by omega
    rw [← pair_fst, ← pair_snd] at h2
    refine ⟨_, ?_, h2.congr fun r => by omega⟩
    show Scalar.select (FloatOps.cmpf .olt (FloatOps.minimumf (F := Ideal) _ _) _)
      (Scalar.select (FloatOps.cmpf .olt _ _) (BitVec.ofNat 32 (3584 + 2 * n) + 1#32) (BitVec.ofNat 32 (3584 + 2 * n))) (scan X b c n).2 = _
    rw [select_olt, select_olt, hi, ← BitVec.ofNat_add, Ideal.minimumf_def]
    split_ifs <;> rfl

/-! ## The TensorCore's scan -/

theorem tscan_best (R : ℕ → Ideal .f32) (s : ℕ) (hs : s < 8) (n : ℕ) :
    BestB R (fun r => r % 8 = s ∧ r < 8 * n) (tscan R s n) := by
  induction n with
  | zero => exact ⟨0, rfl, by rw [show (tscan R s 0).1 = (⊤ : EReal) from inf_top]; exact Best.empty fun r h => by omega⟩
  | succ n ih =>
    obtain ⟨i, hi, hb⟩ := ih
    have h1 := hb.snoc (r := 8 * n + s) fun r hr => by omega
    refine ⟨if R (8 * n + s) < (tscan R s n).1 then 8 * n + s else i, ?_, ?_⟩
    rotate_left
    · have e : (tscan R s (n + 1)).1 = min (tscan R s n).1 (R (8 * n + s)) := by
        show Scalar.select (FloatOps.cmpf (F := Ideal) .olt _ _) _ _ = _
        rw [select_olt]
        split_ifs with h
        · exact (min_eq_right h.le).symm
        · exact (min_eq_left (not_lt.1 h)).symm
      rw [e]
      exact h1.congr fun r => by omega
    · show Scalar.select (FloatOps.cmpf (F := Ideal) .olt _ _) _ (tscan R s n).2 = _
      rw [select_olt, hi]
      split_ifs <;> rfl

/-! ## The reductions over the eight sublanes -/

/-- A minimum over eight values, from the greatest: not above any of them, and one of them or the greatest. -/
theorem fold_min (g : Fin 8 → EReal) :
    let m := (List.finRange 8).foldl (fun a r => min a (g r)) ⊤
    (∀ s, m ≤ g s) ∧ ∃ s, m = g s := by
  intro m
  have h : (∀ s : Fin 8, s.val < 8 → m ≤ g s) ∧ (m = ⊤ ∨ ∃ s, m = g s) :=
    foldl_finRange (fun n a => (∀ s : Fin 8, s.val < n → a ≤ g s) ∧ (a = ⊤ ∨ ∃ s, a = g s)) (fun a r => min a (g r)) ⊤
      ⟨fun s h => absurd h (Nat.not_lt_zero _), .inl rfl⟩ fun n a ⟨h1, h2⟩ => by
        refine ⟨fun s hs => ?_, ?_⟩
        · rcases Nat.lt_succ_iff_lt_or_eq.1 hs with h | h
          · exact (min_le_left _ _).trans (h1 s h)
          · rw [Fin.ext h]; exact min_le_right _ _
        · rcases min_choice a (g n) with h | h
          · rw [h]; exact h2
          · rw [h]; exact .inr ⟨n, rfl⟩
  refine ⟨fun s => h.1 s s.isLt, h.2.elim (fun e => ⟨0, ?_⟩) id⟩
  exact le_antisymm (h.1 0 (by decide)) (e ▸ le_top)

theorem minsi_cases (a b : BitVec 32) :
    (IntOp.minsi a b = a ∨ IntOp.minsi a b = b) ∧ (IntOp.minsi a b).toInt ≤ a.toInt ∧ (IntOp.minsi a b).toInt ≤ b.toInt := by
  simp only [IntOp.minsi, BitVec.slt, decide_eq_true_eq]
  split_ifs with h
  · exact ⟨.inl rfl, le_rfl, h.le⟩
  · exact ⟨.inr rfl, by omega, le_rfl⟩

/-- A signed minimum over eight words likewise. -/
theorem fold_minsi (g : Fin 8 → BitVec 32) (b : BitVec 32) :
    let m := (List.finRange 8).foldl (fun a r => IntOp.minsi a (g r)) b
    (∀ s, m.toInt ≤ (g s).toInt) ∧ (m = b ∨ ∃ s, m = g s) := by
  intro m
  have h : (∀ s : Fin 8, s.val < 8 → m.toInt ≤ (g s).toInt) ∧ (m = b ∨ ∃ s, m = g s) :=
    foldl_finRange (fun n a => (∀ s : Fin 8, s.val < n → a.toInt ≤ (g s).toInt) ∧ (a = b ∨ ∃ s, a = g s))
      (fun a r => IntOp.minsi a (g r)) b
      ⟨fun s h => absurd h (Nat.not_lt_zero _), .inl rfl⟩ fun n a ⟨h1, h2⟩ => by
        obtain ⟨hc, ha, hg⟩ := minsi_cases a (g n)
        refine ⟨fun s hs => ?_, ?_⟩
        · rcases Nat.lt_succ_iff_lt_or_eq.1 hs with h | h
          · exact ha.trans (h1 s h)
          · rw [Fin.ext h]; exact hg
        · rcases hc with h | h
          · rw [h]; exact h2
          · rw [h]; exact .inr ⟨n, rfl⟩
  exact ⟨fun s => h.1 s s.isLt, h.2⟩

theorem toInt_row (k : ℕ) (h : k < 2147483648) : (BitVec.ofNat 32 k).toInt = k := by
  rw [BitVec.toInt_eq_toNat_of_lt (by rw [BitVec.toNat_ofNat]; omega), BitVec.toNat_ofNat]
  omega

/-- The least of eight sublanes' values, and the least of the rows of those that reach it: the pair over all their rows. -/
theorem sublanes_best {x : ℕ → EReal} (p : Fin 8 → EReal × BitVec 32) (N : ℕ) (hN : 8 * N ≤ 1073741824) (h0 : 0 < N)
    (h : ∀ s : Fin 8, BestB x (fun r => r % 8 = s.val ∧ r < 8 * N) (p s)) :
    BestB x (fun r => r < 8 * N)
      ((List.finRange 8).foldl (fun a r => min a (p r).1) ⊤,
        (List.finRange 8).foldl (fun a r => IntOp.minsi a
          (if (p r).1 = (List.finRange 8).foldl (fun a r => min a (p r).1) ⊤ then (p r).2 else 1073741824#32)) 2147483647#32) := by
  choose i hi hb using h
  have hlt : ∀ s, i s < 8 * N := fun s => row_lt (hb s) (fun r hr => hr.2) (by omega)
  obtain ⟨hm, s₀, hs₀⟩ := fold_min fun s => (p s).1
  generalize hM : (List.finRange 8).foldl (fun a r => min a (p r).1) (⊤ : EReal) = m at *
  obtain ⟨hk, hc⟩ := fold_minsi (fun r => if (p r).1 = m then (p r).2 else 1073741824#32) 2147483647#32
  generalize hK : (List.finRange 8).foldl (fun a r => IntOp.minsi a (if (p r).1 = m then (p r).2 else 1073741824#32)) 2147483647#32 = k at *
  have hle : ∀ s, (p s).1 = m → k.toInt ≤ i s := fun s e => by
    have := hk s
    rw [if_pos e, hi, toInt_row _ (by have := hlt s; omega)] at this
    exact this
  have hk0 := hle s₀ hs₀.symm
  have hl0 := hlt s₀
  obtain ⟨s, hs, e⟩ : ∃ s, (p s).1 = m ∧ k = (p s).2 := by
    rcases hc with e | ⟨s, e⟩
    · rw [e, show (2147483647#32 : BitVec 32).toInt = 2147483647 from by decide] at hk0
      omega
    · by_cases hs : (p s).1 = m
      · rw [if_pos hs] at e
        exact ⟨s, hs, e⟩
      · rw [if_neg hs] at e
        rw [e, show (1073741824#32 : BitVec 32).toInt = 1073741824 from by decide] at hk0
        omega
  refine ⟨i s, e.trans (hi s), ?_⟩
  refine (Best.iUnion hb hm ⟨s, hs, rfl⟩ fun t ht => ?_).congr fun r => ⟨fun ⟨t, h⟩ => h.2, fun h => ⟨⟨r % 8, by omega⟩, rfl, h⟩⟩
  have := hle t ht
  rw [e, hi, toInt_row _ (by have := hlt s; omega)] at this
  exact_mod_cast this

end Cert.Proof.Walks
-- ==== Proof.Values.lean ====
/-
  At the extended reals the kernel's result at a column is the first row of the least value: the TensorCore's rows (the
  first 3584) joined with the SparseCore's (the rest).
-/
module

public import proofs.«01_k».proof.Proof.Walks

@[expose] public section

noncomputable section

namespace Cert.Proof.Values

open Idealize.ShloMosaic hiding ix1 ix2 ix3
open Idealize.ShloMosaic.ValueIdx
open Cert.Proof.Scan Cert.Proof.Walks

/-! ## The TensorCore's blocks -/

section Tc
open Cert.KernelIdeal Cert.KernelIdeal.Gen

/-- A reduction over the rows of an 8 × 128 vector, at a column: the fold over the eight sublanes. -/
theorem fold_rows {β : Type} (f : β → β → β) (e : β) (w : S8x128.Idx → β) (c : Fin 128) :
    reduceFold reduces_S8x128_S128 f e w (ix1 c) = (List.finRange 8).foldl (fun a r => f a (w (ix2 r c))) e := by
  refine (reduceFold_rows (d := ![8, 128]) reduces_S8x128_S128 f e w (ix1 c)).trans ?_
  refine congrArg (fun g => List.foldl g e (List.finRange 8)) (funext fun a => funext fun r => ?_)
  refine congrArg (fun k => f a (w k)) ?_
  refine funext fun b => ?_
  match b with
  | ⟨0, _⟩ => rfl
  | ⟨1, _⟩ => rfl

/-- A row of 128 stored as a 1 × 1 × 128 block. -/
theorem block_cast {β : Type} (w : S128.Idx → β) (c : Fin 128) :
    shapeCast S1x1x128 w shapeCasts_S128_S1x1x128 (ix3 0 0 c) = w (ix1 c) := by
  refine shapeCast_apply w _ _ _ ?_
  refine (Shape.rowMajor_val_one _).trans (Eq.trans ?_ (Shape.rowMajor_val_three _).symm)
  show c.val = (0 * 1 + 0) * 128 + c.val
  omega

/-- A row of 128 repeated down eight sublanes. -/
theorem spread {β : Type} (w : S128.Idx → β) (s : Fin 8) (c : Fin 128) :
    broadcastTo S8x128 (shapeCast S1x128 w shapeCasts_S128_S1x128) broadcasts_S1x128_S8x128 (ix2 s c) = w (ix1 c) := by
  refine (broadcastTo_apply _ _ _ (ix2 (0 : Fin 1) c) fun a => ?_).trans ?_
  · match a with
    | ⟨0, _⟩ => rfl
    | ⟨1, _⟩ => rfl
  refine shapeCast_apply w _ _ _ ?_
  refine (Shape.rowMajor_val_one _).trans (Eq.trans ?_ (Shape.rowMajor_val_two _).symm)
  show c.val = 0 * 128 + c.val
  omega

/-- The block of minima, at a column: the least of the eight sublanes' minima; -/
theorem pay12_apply (v : FVec Ideal S8x128 .f32) (c : Fin 128) :
    k1_pay12 v (ix3 0 0 c) = (List.finRange 8).foldl (fun a r => min a (v (ix2 r c))) (⊤ : EReal) := by
  unfold k1_pay12 k1_pay11
  refine (block_cast _ c).trans ?_
  refine (fold_rows FloatOps.minimumf _ v c).trans ?_
  rw [show (FloatOps.ofBits .f32 0x7F800000#32 : Ideal .f32) = (⊤ : EReal) from inf_top]
  rfl

/-- the block of rows: the least row among the sublanes that reach it. -/
theorem pay13_apply (v : FVec Ideal S8x128 .f32) (w : IVec S8x128 32) (c : Fin 128) :
    k1_pay13 v w (ix3 0 0 c) = (List.finRange 8).foldl (fun a r => IntOp.minsi a
      (if v (ix2 r c) = (List.finRange 8).foldl (fun a r => min a (v (ix2 r c))) (⊤ : EReal) then w (ix2 r c) else 1073741824#32)) 2147483647#32 := by
  unfold k1_pay13
  refine (block_cast _ c).trans ?_
  refine (fold_rows IntOp.minsi _ _ c).trans ?_
  refine congrArg (fun g => List.foldl g _ (List.finRange 8)) (funext fun a => funext fun r => congrArg (IntOp.minsi a) ?_)
  show Scalar.select (FloatOps.cmpf (F := Ideal) .oeq (v (ix2 r c)) (broadcastTo S8x128 _ _ (ix2 r c))) _ _ = _
  rw [spread, ← block_cast (k1_pay11 v) c]
  rw [show shapeCast S1x1x128 (k1_pay11 v) shapeCasts_S128_S1x1x128 (ix3 0 0 c) = k1_pay12 v (ix3 0 0 c) from rfl, pay12_apply]
  exact select_decide _ _ _

/-- The two blocks of a scan of `N` groups of eight rows hold the least value and its first row over those rows. -/
theorem pay_best (R : ℕ → Fin 128 → Ideal .f32) (c : Fin 128) (N : ℕ) (h0 : 0 < N) (hN : 8 * N ≤ 1073741824) :
    BestB (fun r => R r c) (fun r => r < 8 * N) (k1_pay12 (accV R N) (ix3 0 0 c), k1_pay13 (accV R N) (accI R N) (ix3 0 0 c)) := by
  have h := sublanes_best (x := fun r => R r c) (fun s => tscan (fun r => R r c) s.val N) N hN h0 fun s => tscan_best _ s.val s.isLt N
  rw [pay12_apply, pay13_apply]
  exact h

/-- The first call's two blocks hold the least value and its first row over the first 3584 rows. -/
theorem block_best (X : FVec Ideal S64x8192x128 .f32) (b : Fin 64) (c : Fin 128) :
    BestB (xAt X b c) (fun r => r < 3584) (valBlk X b (ix3 0 0 c), idxBlk X b (ix3 0 0 c)) := by
  obtain ⟨i, hi, hv, hf⟩ := pay_best (rowsOf (rowBlk X b)) c 448 (by decide) (by decide)
  have ex : ∀ r, r < 8 * 448 → rowsOf (rowBlk X b) r c = xAt X b c r := fun r hr => by
    unfold rowsOf rowBlk xAt
    refine congrArg X (congrArg (fun k => ix3 b k c) (Fin.ext ?_))
    show r % 3584 = r % 8192
    omega
  refine ⟨i, hi, fun r hr => (hv r hr).trans_eq (ex r hr), hf.imp id fun ⟨h1, h2, h3, h4⟩ => ?_⟩
  exact ⟨h1, h2, (ex i h2).symm.trans h3, fun r hr hri => (h4 r hr hri).trans_eq (ex r hr)⟩

/-! ## The merge -/

theorem merge_apply (sv : FVec Ideal S64x128 .f32) (tv : FVec Ideal S64x1x128 .f32) (si : IVec S64x128 32) (ti : IVec S64x1x128 32)
    (b : Fin 64) (c : Fin 128) :
    k2_pay1 (F := Ideal) sv tv si ti (ix2 b c) = if sv (ix2 b c) < tv (ix3 b 0 c) then si (ix2 b c) else ti (ix3 b 0 c) := by
  have e : ∀ {β : Type} (w : S64x1x128.Idx → β), shapeCast S64x128 w shapeCasts_S64x1x128_S64x128 (ix2 b c) = w (ix3 b 0 c) := fun w => by
    refine shapeCast_apply w _ _ _ ?_
    refine (Shape.rowMajor_val_three _).trans (Eq.trans ?_ (Shape.rowMajor_val_two _).symm)
    show (b.val * 1 + 0) * 128 + c.val = b.val * 128 + c.val
    omega
  have e' : ∀ {β : Type} (w : S64x128.Idx → β), shapeCast S64x128 w shapeCasts_S64x128_S64x128 (ix2 b c) = w (ix2 b c) := fun w =>
    shapeCast_apply w _ _ _ rfl
  show Scalar.select (FloatOps.cmpf (F := Ideal) .olt (shapeCast S64x128 sv _ (ix2 b c)) (shapeCast S64x128 tv _ (ix2 b c)))
    (shapeCast S64x128 si _ (ix2 b c)) (shapeCast S64x128 ti _ (ix2 b c)) = _
  rw [e, e, e', e', select_olt]

/-- The kernel's result at a column is the first row of the least value over all rows. -/
theorem kernel_best (X : FVec Ideal S64x8192x128 .f32) (sv : FVec Ideal S64x128 .f32) (si : IVec S64x128 32)
    (b : Fin 64) (c : Fin 128) (hs : (sv (ix2 b c), si (ix2 b c)) = scan X b c 2304) :
    ∃ v, BestB (xAt X b c) (fun r => r < 8192) (v, k2_pay1 (F := Ideal) sv (V10 X) si (V11 X) (ix2 b c)) := by
  obtain ⟨i, hi, hb⟩ := block_best X b c
  obtain ⟨k, hk, hb'⟩ := hs ▸ scan_best X b c 2304
  refine ⟨_, _, ?_, (hb.union hb' fun r s hr hs => by omega).congr fun r => by omega⟩
  rw [merge_apply]
  show (if sv (ix2 b c) < valBlk X b (ix3 0 0 c) then si (ix2 b c) else idxBlk X b (ix3 0 0 c)) = _
  rw [show si (ix2 b c) = _ from hk, show idxBlk X b (ix3 0 0 c) = _ from hi]
  split_ifs <;> rfl

end Tc

end Cert.Proof.Values
-- ==== Proof.RefValue.lean ====
/-
  At the extended reals the reference's fold ends with the least value and its first row.
-/
module

public import proofs.«01_k».proof.Proof.Walks

@[expose] public section

noncomputable section

namespace Cert.Proof.RefValue

open Idealize.ShloMosaic hiding ix1 ix2 ix3
open Idealize.ShloMosaic.ValueIdx
open Cert.Proof.Scan Cert.Proof.Walks

/-! ## The reference's fold -/

section Reference
open Cert.ReferenceIdeal Facts₀

/-- The reference's condition for keeping the earlier row: its value is less, or equal at an earlier row. -/
theorem keep_lt : ∀ e l : BitVec 1, IntOp.ori (IntOp.ori 1#1 0#1) (IntOp.andi e l) = 1#1 := by decide
theorem keep_eq : ∀ l : BitVec 1, IntOp.ori (IntOp.ori 0#1 0#1) (IntOp.andi 1#1 l) = l := by decide
theorem keep_gt : ∀ l : BitVec 1, IntOp.ori (IntOp.ori 0#1 0#1) (IntOp.andi 0#1 l) = 0#1 := by decide
theorem or_one : IntOp.ori 1#1 0#1 = 1#1 := by decide
theorem or_zero : IntOp.ori 0#1 0#1 = 0#1 := by decide

/-- One step of the reference's fold, at a later row or at the first. -/
theorem reducer_step (v u : EReal) (i r : ℕ) (hi : i < r ∨ i = r) (hr : r < 8192) :
    reducer_argmin_f32_i32 (F := Ideal) (v, BitVec.ofNat 32 i) (u, BitVec.ofNat 32 r)
      = (min v u, BitVec.ofNat 32 (if u < v then r else i)) := by
  have e2 : FloatOps.cmpf (F := Ideal) (φ := .f32) .olt v u = BitVec.ofBool (decide (v < u)) := rfl
  have e3 : FloatOps.cmpf (F := Ideal) (φ := .f32) .une v v = 0#1 := by
    show BitVec.ofBool (decide (v ≠ v)) = _
    simp
  have e5 : FloatOps.cmpf (F := Ideal) (φ := .f32) .oeq v u = BitVec.ofBool (decide (v = u)) := rfl
  have e6 : IntOp.cmpi .slt (BitVec.ofNat 32 i) (BitVec.ofNat 32 r) = BitVec.ofBool (decide (i < r)) := by
    show BitVec.ofBool (BitVec.slt _ _) = _
    unfold BitVec.slt
    rw [toInt_row i (by omega), toInt_row r (by omega)]
    simp
  unfold reducer_argmin_f32_i32
  simp only [e2, e3, e5, e6]
  rcases lt_trichotomy v u with h1 | h1 | h1
  · rw [decide_eq_true h1, min_eq_left h1.le, if_neg h1.not_gt, show BitVec.ofBool true = 1#1 from rfl, keep_lt, or_one, select_one, select_one]
  · subst h1
    rw [decide_eq_false (lt_irrefl v), decide_eq_true (rfl : v = v), min_self, if_neg (lt_irrefl v), show BitVec.ofBool true = 1#1 from rfl,
      show BitVec.ofBool false = 0#1 from rfl, keep_eq, or_zero, select_zero, select_decide]
    rcases hi with hi | rfl
    · rw [if_pos hi]
    · rw [if_neg (lt_irrefl _)]
  · rw [decide_eq_false h1.not_gt, decide_eq_false h1.ne', min_eq_right h1.le, if_pos h1, show BitVec.ofBool false = 0#1 from rfl,
      keep_gt, or_zero, select_zero, select_zero]

/-- The place of row `r` of column `c` of batch `b` in row-major order. -/
abbrev pos (b : Fin 64) (c : Fin 128) (r : ℕ) : ℕ := (b.val * 8192 + r) * 128 + c.val

theorem place (i : S64x8192x128.Idx) : (S64x8192x128.rowMajor i).val = ((i 0).val * 8192 + (i 1).val) * 128 + (i 2).val :=
  Shape.rowMajor_val_three i

theorem pos_lt (b : Fin 64) (c : Fin 128) (r : Fin 8192) : pos b c r.val < S64x8192x128.numel := by
  have h := (S64x8192x128.rowMajor (ix3 b r c)).isLt
  rw [place] at h
  exact h

/-- The fold at column `c` of batch `b`, one place in row-major order after another: only the places of that column count. -/
theorem fold_best (X : FVec Ideal S64x8192x128 .f32) (b : Fin 64) (c : Fin 128) (v₀ : EReal) (i₀ : BitVec 32) (hv : v₀ = ⊤) (hi : i₀ = 0#32) :
    BestB (xAt X b c) (fun r => r < 8192 ∧ pos b c r < S64x8192x128.numel)
      ((List.finRange S64x8192x128.numel).foldl
        (fun p n => if decide (reducesTo_S64x8192x128_S64x128_d1.drop (S64x8192x128.rowMajor.symm n) = ix2 b c) = true then
          reducer_argmin_f32_i32 (F := Ideal) p (X (S64x8192x128.rowMajor.symm n), iotaInDim S64x8192x128 32 1 (S64x8192x128.rowMajor.symm n))
          else p) (v₀, i₀)) := by
  subst hv hi
  refine foldl_finRange (fun n p => BestB (xAt X b c) (fun r => r < 8192 ∧ pos b c r < n) p) _ _
    ⟨0, rfl, Best.empty fun r h => absurd h.2 (Nat.not_lt_zero _)⟩ fun n p hp => ?_
  have hn := place (S64x8192x128.rowMajor.symm n)
  rw [Equiv.apply_symm_apply] at hn
  generalize S64x8192x128.rowMajor.symm n = i at *
  have l1 : (i 1).val < 8192 := (i 1).isLt
  have l2 : (i 2).val < 128 := (i 2).isLt
  have lc := c.isLt
  have d0 : (reducesTo_S64x8192x128_S64x128_d1.drop i 0 : ℕ) = i 0 := Shape.ReducesTo.drop_apply_val _ i 0
  have d1 : (reducesTo_S64x8192x128_S64x128_d1.drop i 1 : ℕ) = i 2 := Shape.ReducesTo.drop_apply_val _ i 1
  by_cases hd : reducesTo_S64x8192x128_S64x128_d1.drop i = ix2 b c
  · rw [if_pos (decide_eq_true hd)]
    rw [hd] at d0 d1
    have h0 : (i 0).val = b.val := d0.symm
    have h2 : (i 2).val = c.val := d1.symm
    obtain ⟨k, hk, hb⟩ := hp
    have hlt : ∀ s, (s < 8192 ∧ pos b c s < n.val) → s < (i 1).val := fun s hs => by
      have := hs.2
      unfold pos at this
      rw [hn, h0, h2] at this
      omega
    have hki : k < (i 1).val ∨ k = (i 1).val := by
      rcases hb.2 with ⟨-, rfl⟩ | ⟨-, hS, -⟩
      · exact (Nat.eq_zero_or_pos _).elim (fun h => .inr h.symm) .inl
      · exact .inl (hlt k hS)
    have hx : X i = xAt X b c (i 1).val := xAt_eq X b c _ i h0 rfl h2
    have e := reducer_step p.1 (X i) k (i 1).val hki l1
    rw [← hk] at e
    refine ⟨if X i < p.1 then (i 1).val else k, congrArg Prod.snd e, ?_⟩
    rw [show (reducer_argmin_f32_i32 (F := Ideal) p (X i, iotaInDim S64x8192x128 32 1 i)).1 = min p.1 (X i) from congrArg Prod.fst e, hx]
    refine (hb.snoc hlt).congr fun s => ?_
    unfold pos
    rw [hn, h0, h2]
    omega
  · rw [if_neg (by simpa using hd)]
    refine hp.congr fun s => ⟨fun h => ⟨h.1, h.2.trans (Nat.lt_succ_self _)⟩, fun h => ⟨h.1, ?_⟩⟩
    refine (Nat.lt_succ_iff.1 h.2).lt_of_ne fun e => hd ?_
    unfold pos at e
    rw [hn] at e
    have hs := h.1
    refine funext fun a => Fin.ext ?_
    match a with
    | ⟨0, _⟩ => exact d0.trans (by show (i 0).val = b.val; omega)
    | ⟨1, _⟩ => exact d1.trans (by show (i 2).val = c.val; omega)

/-- A reduction of pairs as a fold over every place, those of other columns passed over. -/
theorem reduce2_fold {β γ : Type} {s t u : Shape} {axes : List (Fin s.rank)} (f : β × γ → β × γ → β × γ) (x : s.Idx → β) (y : s.Idx → γ)
    (ix : u.Idx → β) (iy : u.Idx → γ) (h : s.ReducesTo axes t) (hu : 0 < u.numel) (j : t.Idx) :
    Host.reduce2 f x y ix iy h hu j = (List.finRange s.numel).foldl
      (fun p n => if decide (h.drop (s.rowMajor.symm n) = j) = true then f p (x (s.rowMajor.symm n), y (s.rowMajor.symm n)) else p)
      (ix (Shape.Idx.first hu), iy (Shape.Idx.first hu)) := by
  rw [Host.reduce2_eq_foldl_fiber, Host.argReduceFiber, List.foldl_map, List.foldl_filter]

/-- The reference's pair at a column, started from +∞ and row zero, is the least value over all rows and its first row. -/
theorem pairs_best (X : FVec Ideal S64x8192x128 .f32) (cv : FVec Ideal S_ .f32) (ci : IVec S_ 32) (b : Fin 64) (c : Fin 128)
    (hv : cv (Shape.Idx.first h_S_) = (⊤ : EReal)) (hi : ci (Shape.Idx.first h_S_) = 0#32) :
    BestB (xAt X b c) (fun r => r < 8192) (Ref.pairs X (iotaInDim S64x8192x128 32 1) cv ci (ix2 b c)) := by
  have hr : ∀ r, (r < 8192 ∧ pos b c r < S64x8192x128.numel) ↔ r < 8192 := fun r => ⟨And.left, fun h => ⟨h, pos_lt b c ⟨r, h⟩⟩⟩
  refine BestB.congr ?_ hr
  rw [Ref.pairs_eq, Ideal.argReduce_eq_reduce2, reduce2_fold]
  exact fold_best X b c _ _ hv hi

/-- A pair that is best among rows is so with its value forgotten. -/
theorem best_snd {x : ℕ → EReal} {S : ℕ → Prop} {p : EReal × BitVec 32} (h : BestB x S p) : ∃ v, BestB x S (v, p.2) := ⟨p.1, h⟩

/-- The reference's result at a column is the first row of the least value over all rows. -/
theorem reference_best (X : FVec Ideal S64x8192x128 .f32) (b : Fin 64) (c : Fin 128) :
    ∃ v, BestB (xAt X b c) (fun r => r < 8192) (v, Ref.out X (ix2 b c)) := by
  rw [Ref.out_eq, Ref.seconds_apply]
  exact best_snd (pairs_best X _ _ b c inf_top rfl)

end Reference

end Cert.Proof.RefValue
-- ==== Proof.Algebraic.lean ====
/-
  The kernel's result, read at the extended reals, is the reference's: at every column both are the first row of the least
  value over all rows.
-/
module

public import proofs.«01_k».proof.Proof.Values
public import proofs.«01_k».proof.Proof.RefValue
public import proofs.«01_k».proof.Proof.Frames

@[expose] public section

noncomputable section

namespace Cert.Proof.Algebraic

open Idealize.ShloMosaic hiding ix1 ix2 ix3 eq_ix2
open Idealize.ShloMosaic.ValueIdx
open Idealize.SL.Sem
open Cert.Proof.Scan Cert.Proof.Walks

section Pair

attribute [local irreducible] Cert.Proof.Scan.scan

/-- The two arrays that the SparseCore leaves are, at a column, the value and the row of its scan. -/
theorem scan_pair (m : (ℓ : Loc Cert.KernelIdeal.nD Cert.KernelIdeal.τ Cert.KernelIdeal.sig) → Buf (Elt Ideal) ℓ)
    (d : Dev Cert.KernelIdeal.nD) (b : Fin 64) (c : Fin 128) :
    (SCV (F := Ideal) m d (ix2 b c), SCI (F := Ideal) m d (ix2 b c)) = scan (X0 (F := Ideal) m d) b c 2304 := rfl

end Pair

/-- Two rows, each best among the same rows for some value, are equal. -/
theorem row_eq {x : ℕ → EReal} {S : ℕ → Prop} {i k : BitVec 32} (h : ∃ v, BestB x S (v, i)) (h' : ∃ v, BestB x S (v, k)) : i = k :=
  match h, h' with
  | ⟨_, h⟩, ⟨_, h'⟩ => h.unique h'

/-- The kernel's result is its merge of the SparseCore's arrays with the TensorCore's. -/
theorem V2_eq (m : (ℓ : Loc Cert.KernelIdeal.nD Cert.KernelIdeal.τ Cert.KernelIdeal.sig) → Buf (Elt Ideal) ℓ)
    (d : Dev Cert.KernelIdeal.nD) :
    V2 (F := Ideal) m d = Cert.KernelIdeal.Gen.k2_pay1 (F := Ideal) (SCV m d) (V10 (X0 m d)) (SCI m d) (V11 (X0 m d)) := by
  unfold V2
  with_reducible rfl

/-- Of one argument, the kernel's result is the reference's. -/
theorem result_eq (m : (ℓ : Loc Cert.KernelIdeal.nD Cert.KernelIdeal.τ Cert.KernelIdeal.sig) → Buf (Elt Ideal) ℓ)
    (d : Dev Cert.KernelIdeal.nD) (b : Fin 64) (c : Fin 128) :
    Ref.out (F := Ideal) (X0 (F := Ideal) m d) (ix2 b c) = V2 (F := Ideal) m d (ix2 b c) := by
  rw [V2_eq]
  exact row_eq (RefValue.reference_best (X0 (F := Ideal) m d) b c) (Values.kernel_best (X0 (F := Ideal) m d) _ _ b c (scan_pair m d b c))

/-- The kernel and the reference, from memories agreeing on the argument, end with equal results. -/
theorem algebraic : Cert.algebraic_KernelIdeal_ReferenceIdeal := by
  intro m ρ m' ρ' _ hagree
  refine ⟨fun c => V2 (F := Ideal) m c, (θ_run Cert.KernelIdeal.defs _ _).mono (fun _ h c => h.1 c) (run_main (F := Ideal) m ρ), ?_⟩
  refine (θ_run Cert.ReferenceIdeal.defs _ _).mono (fun _ h c => ⟨(h.1 c).1.trans ?_, (h.1 c).2⟩) (Ref.run_main (F := Ideal) m' ρ')
  rw [hagree c]
  refine funext fun j => ?_
  rw [ValueIdx.eq_ix2 j]
  exact result_eq m c (j 0) (j 1)

end Cert.Proof.Algebraic

end
-- ==== Proof.lean ====
/-
  The certificate: every claim of Defs.lean. The kernel's run is Proof/Launch.lean, its frames Proof/Frames.lean,
  the reference's run Proof/Ref.lean, the equality of the results Proof/Algebraic.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Ref
public import proofs.«01_k».proof.Proof.Algebraic

@[expose] public section

noncomputable section

namespace Cert.Proof

/-- All the claims, under the generated witnesses of the programs' side conditions. -/
theorem claim : Cert.Claim :=
  ⟨Cert.Kernel.Gen.facts, Cert.KernelIdeal.Gen.facts, Cert.ReferenceIdeal.Gen.facts,
    frame_kernel, frame_kernelIdeal, Ref.frame, trivial, Algebraic.algebraic⟩

end Cert.Proof

end
